-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![16, 512, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S3x4x32x512 : Shape := ⟨4, ![3, 4, 32, 512]⟩
abbrev S3x32x512 : Shape := ⟨3, ![3, 32, 512]⟩
abbrev S3x4 : Shape := ⟨2, ![3, 4]⟩
abbrev S3 : Shape := ⟨1, ![3]⟩
abbrev S_ : Shape := ⟨0, ![]⟩
abbrev S1x1 : Shape := ⟨2, ![1, 1]⟩
abbrev S1x1x32x512 : Shape := ⟨4, ![1, 1, 32, 512]⟩
abbrev S32x512 : Shape := ⟨2, ![32, 512]⟩
abbrev S1x32x512 : Shape := ⟨3, ![1, 32, 512]⟩
abbrev S1 : Shape := ⟨1, ![1]⟩
abbrev S32 : Shape := ⟨1, ![32]⟩
abbrev S32x1 : Shape := ⟨2, ![32, 1]⟩
abbrev S1x512 : Shape := ⟨2, ![1, 512]⟩

abbrev nBuf : Space → Nat
  | .hbm => 4
  | .vmem => 7
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512, .f32⟩
  | .local _ .vmem, ⟨3, _⟩ => ⟨S512x512, .f32⟩
  | .local _ .vmem, ⟨4, _⟩ => ⟨S3x4x32x512, .f32⟩
  | .local _ .vmem, ⟨5, _⟩ => ⟨S3x32x512, .f32⟩
  | .local _ .vmem, ⟨6, _⟩ => ⟨S3x32x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v34 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v35 : BitVec 32 := Scalar.addi v29 c1_i32_12
  let c4_i32_13 : BitVec 32 := 4#32
  let v36 : BitVec 32 := Scalar.remsi v35 c4_i32_13
  let v37 : BitVec 32 := Scalar.addi v34 v36
  let c1_i32_15 : BitVec 32 := 1#32
  let v38 : BitVec 32 := Scalar.muli v37 c1_i32_15
  let v39 : BitVec 32 := Scalar.addi c0_i32_16 v38
  v39.toNat
def k0_dev2 (d0 : Dev nD) : Nat :=
  let c0_i32_22 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v40 : BitVec 32 := Scalar.addi v19 c1_i32_17
  let c4_i32_18 : BitVec 32 := 4#32
  let v41 : BitVec 32 := Scalar.remsi v40 c4_i32_18
  let v42 : BitVec 32 := Scalar.muli c4_i32_19 v41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v43 : BitVec 32 := Scalar.addi v42 v29
  let c1_i32_21 : BitVec 32 := 1#32
  let v44 : BitVec 32 := Scalar.muli v43 c1_i32_21
  let v45 : BitVec 32 := Scalar.addi c0_i32_22 v44
  v45.toNat
def k0_dev3 (d0 : Dev nD) : Nat :=
  let c0_i32_27 : BitVec 32 := 0#32
  let c4_i32_23 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v46 : BitVec 32 := Scalar.muli c4_i32_23 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v47 : BitVec 32 := Scalar.addi v29 c2_i32
  let c4_i32_24 : BitVec 32 := 4#32
  let v48 : BitVec 32 := Scalar.remsi v47 c4_i32_24
  let v49 : BitVec 32 := Scalar.addi v46 v48
  let c1_i32_26 : BitVec 32 := 1#32
  let v50 : BitVec 32 := Scalar.muli v49 c1_i32_26
  let v51 : BitVec 32 := Scalar.addi c0_i32_27 v50
  v51.toNat
def k0_dev4 (d0 : Dev nD) : Nat :=
  let c0_i32_33 : BitVec 32 := 0#32
  let c4_i32_30 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_28 : BitVec 32 := 2#32
  let v52 : BitVec 32 := Scalar.addi v19 c2_i32_28
  let c4_i32_29 : BitVec 32 := 4#32
  let v53 : BitVec 32 := Scalar.remsi v52 c4_i32_29
  let v54 : BitVec 32 := Scalar.muli c4_i32_30 v53
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : BitVec 32 := Scalar.addi v54 v29
  let c1_i32_32 : BitVec 32 := 1#32
  let v56 : BitVec 32 := Scalar.muli v55 c1_i32_32
  let v57 : BitVec 32 := Scalar.addi c0_i32_33 v56
  v57.toNat
def k0_dev5 (d0 : Dev nD) : Nat :=
  let c0_i32_38 : BitVec 32 := 0#32
  let c4_i32_34 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v58 : BitVec 32 := Scalar.muli c4_i32_34 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v59 : BitVec 32 := Scalar.addi v29 c3_i32
  let c4_i32_35 : BitVec 32 := 4#32
  let v60 : BitVec 32 := Scalar.remsi v59 c4_i32_35
  let v61 : BitVec 32 := Scalar.addi v58 v60
  let c1_i32_37 : BitVec 32 := 1#32
  let v62 : BitVec 32 := Scalar.muli v61 c1_i32_37
  let v63 : BitVec 32 := Scalar.addi c0_i32_38 v62
  v63.toNat
def k0_dev6 (d0 : Dev nD) : Nat :=
  let c0_i32_44 : BitVec 32 := 0#32
  let c4_i32_41 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_39 : BitVec 32 := 3#32
  let v64 : BitVec 32 := Scalar.addi v19 c3_i32_39
  let c4_i32_40 : BitVec 32 := 4#32
  let v65 : BitVec 32 := Scalar.remsi v64 c4_i32_40
  let v66 : BitVec 32 := Scalar.muli c4_i32_41 v65
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v67 : BitVec 32 := Scalar.addi v66 v29
  let c1_i32_43 : BitVec 32 := 1#32
  let v68 : BitVec 32 := Scalar.muli v67 c1_i32_43
  let v69 : BitVec 32 := Scalar.addi c0_i32_44 v68
  v69.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_206 : BitVec 32 := 0#32
  let v276 : BitVec 1 := Scalar.cmpi .eq v19 c0_i32_206
  let v277 : BitVec 32 := Scalar.extui v276
  let c0_i32_303 : BitVec 32 := 0#32
  let v278 : BitVec 1 := Scalar.cmpi .ne v277 c0_i32_303
  v278

def k0_off1 (d0 : Dev nD) (c1_i32_116 : BitVec 32) (c3_i32_114 : BitVec 32) : Fin 3 → Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v159 : BitVec 32 := Scalar.addi v29 c1_i32_116
  let c4_i32_117 : BitVec 32 := 4#32
  let v160 : BitVec 32 := Scalar.remsi v159 c4_i32_117
  let c128_i32_118 : BitVec 32 := 128#32
  let v161 : BitVec 32 := Scalar.muli v160 c128_i32_118
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v157 : BitVec 32 := Scalar.addi v19 c3_i32_114
  let c4_i32_115 : BitVec 32 := 4#32
  let v158 : BitVec 32 := Scalar.remsi v157 c4_i32_115
  let c32_i32_119 : BitVec 32 := 32#32
  let v162 : BitVec 32 := Scalar.muli v158 c32_i32_119
  let v163 : BitVec 32 := Scalar.addi v161 v162
  let c0_i32_1271 : BitVec 32 := 0#32
  ![0, v163.toNat, 0]
def k0_dev7 (d0 : Dev nD) : Nat :=
  let c0_i32_1268 : BitVec 32 := 0#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v164 : BitVec 32 := Scalar.muli c4_i32_120 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_121 : BitVec 32 := 1#32
  let v165 : BitVec 32 := Scalar.addi v29 c1_i32_121
  let c4_i32_122 : BitVec 32 := 4#32
  let v166 : BitVec 32 := Scalar.remsi v165 c4_i32_122
  let v167 : BitVec 32 := Scalar.addi v164 v166
  let c1_i32_1267 : BitVec 32 := 1#32
  let v612 : BitVec 32 := Scalar.muli v167 c1_i32_1267
  let v613 : BitVec 32 := Scalar.addi c0_i32_1268 v612
  v613.toNat
def k0_dev8 (d0 : Dev nD) : Nat :=
  let c0_i32_1273 : BitVec 32 := 0#32
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v173 : BitVec 32 := Scalar.muli c4_i32_127 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_128 : BitVec 32 := 2#32
  let v174 : BitVec 32 := Scalar.addi v29 c2_i32_128
  let c4_i32_129 : BitVec 32 := 4#32
  let v175 : BitVec 32 := Scalar.remsi v174 c4_i32_129
  let v176 : BitVec 32 := Scalar.addi v173 v175
  let c1_i32_1272 : BitVec 32 := 1#32
  let v622 : BitVec 32 := Scalar.muli v176 c1_i32_1272
  let v623 : BitVec 32 := Scalar.addi c0_i32_1273 v622
  v623.toNat
def k0_dev9 (d0 : Dev nD) : Nat :=
  let c0_i32_1278 : BitVec 32 := 0#32
  let c4_i32_134 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v182 : BitVec 32 := Scalar.muli c4_i32_134 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_135 : BitVec 32 := 3#32
  let v183 : BitVec 32 := Scalar.addi v29 c3_i32_135
  let c4_i32_136 : BitVec 32 := 4#32
  let v184 : BitVec 32 := Scalar.remsi v183 c4_i32_136
  let v185 : BitVec 32 := Scalar.addi v182 v184
  let c1_i32_1277 : BitVec 32 := 1#32
  let v632 : BitVec 32 := Scalar.muli v185 c1_i32_1277
  let v633 : BitVec 32 := Scalar.addi c0_i32_1278 v632
  v633.toNat
def k0_dev10 (d0 : Dev nD) : Nat :=
  let c0_i32_1283 : BitVec 32 := 0#32
  let c4_i32_97 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v135 : BitVec 32 := Scalar.muli c4_i32_97 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_98 : BitVec 32 := 1#32
  let v136 : BitVec 32 := Scalar.addi v29 c1_i32_98
  let c4_i32_99 : BitVec 32 := 4#32
  let v137 : BitVec 32 := Scalar.remsi v136 c4_i32_99
  let v138 : BitVec 32 := Scalar.addi v135 v137
  let c1_i32_1282 : BitVec 32 := 1#32
  let v642 : BitVec 32 := Scalar.muli v138 c1_i32_1282
  let v643 : BitVec 32 := Scalar.addi c0_i32_1283 v642
  v643.toNat
def k0_dev11 (d0 : Dev nD) : Nat :=
  let c0_i32_1288 : BitVec 32 := 0#32
  let c4_i32_104 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.muli c4_i32_104 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_105 : BitVec 32 := 2#32
  let v145 : BitVec 32 := Scalar.addi v29 c2_i32_105
  let c4_i32_106 : BitVec 32 := 4#32
  let v146 : BitVec 32 := Scalar.remsi v145 c4_i32_106
  let v147 : BitVec 32 := Scalar.addi v144 v146
  let c1_i32_1287 : BitVec 32 := 1#32
  let v652 : BitVec 32 := Scalar.muli v147 c1_i32_1287
  let v653 : BitVec 32 := Scalar.addi c0_i32_1288 v652
  v653.toNat
def k0_dev12 (d0 : Dev nD) : Nat :=
  let c0_i32_1293 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.muli c4_i32_111 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_112 : BitVec 32 := 3#32
  let v154 : BitVec 32 := Scalar.addi v29 c3_i32_112
  let c4_i32_113 : BitVec 32 := 4#32
  let v155 : BitVec 32 := Scalar.remsi v154 c4_i32_113
  let v156 : BitVec 32 := Scalar.addi v153 v155
  let c1_i32_1292 : BitVec 32 := 1#32
  let v662 : BitVec 32 := Scalar.muli v156 c1_i32_1292
  let v663 : BitVec 32 := Scalar.addi c0_i32_1293 v662
  v663.toNat
def k0_dev13 (d0 : Dev nD) : Nat :=
  let c0_i32_1298 : BitVec 32 := 0#32
  let c4_i32_74 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.muli c4_i32_74 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_75 : BitVec 32 := 1#32
  let v107 : BitVec 32 := Scalar.addi v29 c1_i32_75
  let c4_i32_76 : BitVec 32 := 4#32
  let v108 : BitVec 32 := Scalar.remsi v107 c4_i32_76
  let v109 : BitVec 32 := Scalar.addi v106 v108
  let c1_i32_1297 : BitVec 32 := 1#32
  let v672 : BitVec 32 := Scalar.muli v109 c1_i32_1297
  let v673 : BitVec 32 := Scalar.addi c0_i32_1298 v672
  v673.toNat
def k0_dev14 (d0 : Dev nD) : Nat :=
  let c0_i32_1303 : BitVec 32 := 0#32
  let c4_i32_81 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v115 : BitVec 32 := Scalar.muli c4_i32_81 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_82 : BitVec 32 := 2#32
  let v116 : BitVec 32 := Scalar.addi v29 c2_i32_82
  let c4_i32_83 : BitVec 32 := 4#32
  let v117 : BitVec 32 := Scalar.remsi v116 c4_i32_83
  let v118 : BitVec 32 := Scalar.addi v115 v117
  let c1_i32_1302 : BitVec 32 := 1#32
  let v682 : BitVec 32 := Scalar.muli v118 c1_i32_1302
  let v683 : BitVec 32 := Scalar.addi c0_i32_1303 v682
  v683.toNat
def k0_dev15 (d0 : Dev nD) : Nat :=
  let c0_i32_1308 : BitVec 32 := 0#32
  let c4_i32_88 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v124 : BitVec 32 := Scalar.muli c4_i32_88 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_89 : BitVec 32 := 3#32
  let v125 : BitVec 32 := Scalar.addi v29 c3_i32_89
  let c4_i32_90 : BitVec 32 := 4#32
  let v126 : BitVec 32 := Scalar.remsi v125 c4_i32_90
  let v127 : BitVec 32 := Scalar.addi v124 v126
  let c1_i32_1307 : BitVec 32 := 1#32
  let v692 : BitVec 32 := Scalar.muli v127 c1_i32_1307
  let v693 : BitVec 32 := Scalar.addi c0_i32_1308 v692
  v693.toNat
def k0_dev16 (d0 : Dev nD) : Nat :=
  let c0_i32_1313 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v77 : BitVec 32 := Scalar.muli c4_i32_51 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_52 : BitVec 32 := 1#32
  let v78 : BitVec 32 := Scalar.addi v29 c1_i32_52
  let c4_i32_53 : BitVec 32 := 4#32
  let v79 : BitVec 32 := Scalar.remsi v78 c4_i32_53
  let v80 : BitVec 32 := Scalar.addi v77 v79
  let c1_i32_1312 : BitVec 32 := 1#32
  let v702 : BitVec 32 := Scalar.muli v80 c1_i32_1312
  let v703 : BitVec 32 := Scalar.addi c0_i32_1313 v702
  v703.toNat
def k0_dev17 (d0 : Dev nD) : Nat :=
  let c0_i32_1318 : BitVec 32 := 0#32
  let c4_i32_58 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v86 : BitVec 32 := Scalar.muli c4_i32_58 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_59 : BitVec 32 := 2#32
  let v87 : BitVec 32 := Scalar.addi v29 c2_i32_59
  let c4_i32_60 : BitVec 32 := 4#32
  let v88 : BitVec 32 := Scalar.remsi v87 c4_i32_60
  let v89 : BitVec 32 := Scalar.addi v86 v88
  let c1_i32_1317 : BitVec 32 := 1#32
  let v712 : BitVec 32 := Scalar.muli v89 c1_i32_1317
  let v713 : BitVec 32 := Scalar.addi c0_i32_1318 v712
  v713.toNat
def k0_dev18 (d0 : Dev nD) : Nat :=
  let c0_i32_1323 : BitVec 32 := 0#32
  let c4_i32_65 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v95 : BitVec 32 := Scalar.muli c4_i32_65 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_66 : BitVec 32 := 3#32
  let v96 : BitVec 32 := Scalar.addi v29 c3_i32_66
  let c4_i32_67 : BitVec 32 := 4#32
  let v97 : BitVec 32 := Scalar.remsi v96 c4_i32_67
  let v98 : BitVec 32 := Scalar.addi v95 v97
  let c1_i32_1322 : BitVec 32 := 1#32
  let v722 : BitVec 32 := Scalar.muli v98 c1_i32_1322
  let v723 : BitVec 32 := Scalar.addi c0_i32_1323 v722
  v723.toNat
def k0_off2 (d0 : Dev nD) (c3_i32_1342 : BitVec 32) : Fin 3 → Nat :=
  let c0_1346 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1344 : BitVec 32 := 128#32
  let v758 : BitVec 32 := Scalar.muli v29 c128_i32_1344
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v756 : BitVec 32 := Scalar.addi v19 c3_i32_1342
  let c4_i32_1343 : BitVec 32 := 4#32
  let v757 : BitVec 32 := Scalar.remsi v756 c4_i32_1343
  let c32_i32_1345 : BitVec 32 := 32#32
  let v759 : BitVec 32 := Scalar.muli v757 c32_i32_1345
  let v760 : BitVec 32 := Scalar.addi v758 v759
  let v761 : Index := Scalar.indexCast v760
  let c0_1347 : Index := 0#32
  ![0, v761.toNat, 0]
def k0_dev19 (d0 : Dev nD) : Nat :=
  let c0_i32_1363 : BitVec 32 := 0#32
  let c4_i32_145 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_143 : BitVec 32 := 3#32
  let v194 : BitVec 32 := Scalar.addi v19 c3_i32_143
  let c4_i32_144 : BitVec 32 := 4#32
  let v195 : BitVec 32 := Scalar.remsi v194 c4_i32_144
  let v196 : BitVec 32 := Scalar.muli c4_i32_145 v195
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v197 : BitVec 32 := Scalar.addi v196 v29
  let c1_i32_1362 : BitVec 32 := 1#32
  let v776 : BitVec 32 := Scalar.muli v197 c1_i32_1362
  let v777 : BitVec 32 := Scalar.addi c0_i32_1363 v776
  v777.toNat
def k0_dev20 (d0 : Dev nD) : Nat :=
  let c0_i32_1405 : BitVec 32 := 0#32
  let c4_i32_142 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_140 : BitVec 32 := 2#32
  let v190 : BitVec 32 := Scalar.addi v19 c2_i32_140
  let c4_i32_141 : BitVec 32 := 4#32
  let v191 : BitVec 32 := Scalar.remsi v190 c4_i32_141
  let v192 : BitVec 32 := Scalar.muli c4_i32_142 v191
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1404 : BitVec 32 := 1#32
  let v830 : BitVec 32 := Scalar.muli v193 c1_i32_1404
  let v831 : BitVec 32 := Scalar.addi c0_i32_1405 v830
  v831.toNat
def k0_dev21 (d0 : Dev nD) : Nat :=
  let c0_i32_1447 : BitVec 32 := 0#32
  let c4_i32_139 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_137 : BitVec 32 := 1#32
  let v186 : BitVec 32 := Scalar.addi v19 c1_i32_137
  let c4_i32_138 : BitVec 32 := 4#32
  let v187 : BitVec 32 := Scalar.remsi v186 c4_i32_138
  let v188 : BitVec 32 := Scalar.muli c4_i32_139 v187
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v189 : BitVec 32 := Scalar.addi v188 v29
  let c1_i32_1446 : BitVec 32 := 1#32
  let v884 : BitVec 32 := Scalar.muli v189 c1_i32_1446
  let v885 : BitVec 32 := Scalar.addi c0_i32_1447 v884
  v885.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_304 : BitVec 32 := 1#32
  let v279 : BitVec 1 := Scalar.cmpi .eq v19 c1_i32_304
  let v280 : BitVec 32 := Scalar.extui v279
  let c0_i32_401 : BitVec 32 := 0#32
  let v281 : BitVec 1 := Scalar.cmpi .ne v280 c0_i32_401
  v281

def k0_off3 (d0 : Dev nD) (c1_i32_93 : BitVec 32) (c2_i32_91 : BitVec 32) : Fin 3 → Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v130 : BitVec 32 := Scalar.addi v29 c1_i32_93
  let c4_i32_94 : BitVec 32 := 4#32
  let v131 : BitVec 32 := Scalar.remsi v130 c4_i32_94
  let c128_i32_95 : BitVec 32 := 128#32
  let v132 : BitVec 32 := Scalar.muli v131 c128_i32_95
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v128 : BitVec 32 := Scalar.addi v19 c2_i32_91
  let c4_i32_92 : BitVec 32 := 4#32
  let v129 : BitVec 32 := Scalar.remsi v128 c4_i32_92
  let c32_i32_96 : BitVec 32 := 32#32
  let v133 : BitVec 32 := Scalar.muli v129 c32_i32_96
  let v134 : BitVec 32 := Scalar.addi v132 v133
  let c0_i32_1271 : BitVec 32 := 0#32
  ![0, v134.toNat, 0]
def k0_dev22 (d0 : Dev nD) : Nat :=
  let c0_i32_1268 : BitVec 32 := 0#32
  let c4_i32_97 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v135 : BitVec 32 := Scalar.muli c4_i32_97 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_98 : BitVec 32 := 1#32
  let v136 : BitVec 32 := Scalar.addi v29 c1_i32_98
  let c4_i32_99 : BitVec 32 := 4#32
  let v137 : BitVec 32 := Scalar.remsi v136 c4_i32_99
  let v138 : BitVec 32 := Scalar.addi v135 v137
  let c1_i32_1267 : BitVec 32 := 1#32
  let v612 : BitVec 32 := Scalar.muli v138 c1_i32_1267
  let v613 : BitVec 32 := Scalar.addi c0_i32_1268 v612
  v613.toNat
def k0_dev23 (d0 : Dev nD) : Nat :=
  let c0_i32_1273 : BitVec 32 := 0#32
  let c4_i32_104 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.muli c4_i32_104 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_105 : BitVec 32 := 2#32
  let v145 : BitVec 32 := Scalar.addi v29 c2_i32_105
  let c4_i32_106 : BitVec 32 := 4#32
  let v146 : BitVec 32 := Scalar.remsi v145 c4_i32_106
  let v147 : BitVec 32 := Scalar.addi v144 v146
  let c1_i32_1272 : BitVec 32 := 1#32
  let v622 : BitVec 32 := Scalar.muli v147 c1_i32_1272
  let v623 : BitVec 32 := Scalar.addi c0_i32_1273 v622
  v623.toNat
def k0_dev24 (d0 : Dev nD) : Nat :=
  let c0_i32_1278 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.muli c4_i32_111 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_112 : BitVec 32 := 3#32
  let v154 : BitVec 32 := Scalar.addi v29 c3_i32_112
  let c4_i32_113 : BitVec 32 := 4#32
  let v155 : BitVec 32 := Scalar.remsi v154 c4_i32_113
  let v156 : BitVec 32 := Scalar.addi v153 v155
  let c1_i32_1277 : BitVec 32 := 1#32
  let v632 : BitVec 32 := Scalar.muli v156 c1_i32_1277
  let v633 : BitVec 32 := Scalar.addi c0_i32_1278 v632
  v633.toNat
def k0_dev25 (d0 : Dev nD) : Nat :=
  let c0_i32_1283 : BitVec 32 := 0#32
  let c4_i32_74 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.muli c4_i32_74 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_75 : BitVec 32 := 1#32
  let v107 : BitVec 32 := Scalar.addi v29 c1_i32_75
  let c4_i32_76 : BitVec 32 := 4#32
  let v108 : BitVec 32 := Scalar.remsi v107 c4_i32_76
  let v109 : BitVec 32 := Scalar.addi v106 v108
  let c1_i32_1282 : BitVec 32 := 1#32
  let v642 : BitVec 32 := Scalar.muli v109 c1_i32_1282
  let v643 : BitVec 32 := Scalar.addi c0_i32_1283 v642
  v643.toNat
def k0_dev26 (d0 : Dev nD) : Nat :=
  let c0_i32_1288 : BitVec 32 := 0#32
  let c4_i32_81 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v115 : BitVec 32 := Scalar.muli c4_i32_81 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_82 : BitVec 32 := 2#32
  let v116 : BitVec 32 := Scalar.addi v29 c2_i32_82
  let c4_i32_83 : BitVec 32 := 4#32
  let v117 : BitVec 32 := Scalar.remsi v116 c4_i32_83
  let v118 : BitVec 32 := Scalar.addi v115 v117
  let c1_i32_1287 : BitVec 32 := 1#32
  let v652 : BitVec 32 := Scalar.muli v118 c1_i32_1287
  let v653 : BitVec 32 := Scalar.addi c0_i32_1288 v652
  v653.toNat
def k0_dev27 (d0 : Dev nD) : Nat :=
  let c0_i32_1293 : BitVec 32 := 0#32
  let c4_i32_88 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v124 : BitVec 32 := Scalar.muli c4_i32_88 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_89 : BitVec 32 := 3#32
  let v125 : BitVec 32 := Scalar.addi v29 c3_i32_89
  let c4_i32_90 : BitVec 32 := 4#32
  let v126 : BitVec 32 := Scalar.remsi v125 c4_i32_90
  let v127 : BitVec 32 := Scalar.addi v124 v126
  let c1_i32_1292 : BitVec 32 := 1#32
  let v662 : BitVec 32 := Scalar.muli v127 c1_i32_1292
  let v663 : BitVec 32 := Scalar.addi c0_i32_1293 v662
  v663.toNat
def k0_dev28 (d0 : Dev nD) : Nat :=
  let c0_i32_1298 : BitVec 32 := 0#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v164 : BitVec 32 := Scalar.muli c4_i32_120 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_121 : BitVec 32 := 1#32
  let v165 : BitVec 32 := Scalar.addi v29 c1_i32_121
  let c4_i32_122 : BitVec 32 := 4#32
  let v166 : BitVec 32 := Scalar.remsi v165 c4_i32_122
  let v167 : BitVec 32 := Scalar.addi v164 v166
  let c1_i32_1297 : BitVec 32 := 1#32
  let v672 : BitVec 32 := Scalar.muli v167 c1_i32_1297
  let v673 : BitVec 32 := Scalar.addi c0_i32_1298 v672
  v673.toNat
def k0_dev29 (d0 : Dev nD) : Nat :=
  let c0_i32_1303 : BitVec 32 := 0#32
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v173 : BitVec 32 := Scalar.muli c4_i32_127 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_128 : BitVec 32 := 2#32
  let v174 : BitVec 32 := Scalar.addi v29 c2_i32_128
  let c4_i32_129 : BitVec 32 := 4#32
  let v175 : BitVec 32 := Scalar.remsi v174 c4_i32_129
  let v176 : BitVec 32 := Scalar.addi v173 v175
  let c1_i32_1302 : BitVec 32 := 1#32
  let v682 : BitVec 32 := Scalar.muli v176 c1_i32_1302
  let v683 : BitVec 32 := Scalar.addi c0_i32_1303 v682
  v683.toNat
def k0_dev30 (d0 : Dev nD) : Nat :=
  let c0_i32_1308 : BitVec 32 := 0#32
  let c4_i32_134 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v182 : BitVec 32 := Scalar.muli c4_i32_134 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_135 : BitVec 32 := 3#32
  let v183 : BitVec 32 := Scalar.addi v29 c3_i32_135
  let c4_i32_136 : BitVec 32 := 4#32
  let v184 : BitVec 32 := Scalar.remsi v183 c4_i32_136
  let v185 : BitVec 32 := Scalar.addi v182 v184
  let c1_i32_1307 : BitVec 32 := 1#32
  let v692 : BitVec 32 := Scalar.muli v185 c1_i32_1307
  let v693 : BitVec 32 := Scalar.addi c0_i32_1308 v692
  v693.toNat
def k0_dev31 (d0 : Dev nD) : Nat :=
  let c0_i32_1313 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v77 : BitVec 32 := Scalar.muli c4_i32_51 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_52 : BitVec 32 := 1#32
  let v78 : BitVec 32 := Scalar.addi v29 c1_i32_52
  let c4_i32_53 : BitVec 32 := 4#32
  let v79 : BitVec 32 := Scalar.remsi v78 c4_i32_53
  let v80 : BitVec 32 := Scalar.addi v77 v79
  let c1_i32_1312 : BitVec 32 := 1#32
  let v702 : BitVec 32 := Scalar.muli v80 c1_i32_1312
  let v703 : BitVec 32 := Scalar.addi c0_i32_1313 v702
  v703.toNat
def k0_dev32 (d0 : Dev nD) : Nat :=
  let c0_i32_1318 : BitVec 32 := 0#32
  let c4_i32_58 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v86 : BitVec 32 := Scalar.muli c4_i32_58 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_59 : BitVec 32 := 2#32
  let v87 : BitVec 32 := Scalar.addi v29 c2_i32_59
  let c4_i32_60 : BitVec 32 := 4#32
  let v88 : BitVec 32 := Scalar.remsi v87 c4_i32_60
  let v89 : BitVec 32 := Scalar.addi v86 v88
  let c1_i32_1317 : BitVec 32 := 1#32
  let v712 : BitVec 32 := Scalar.muli v89 c1_i32_1317
  let v713 : BitVec 32 := Scalar.addi c0_i32_1318 v712
  v713.toNat
def k0_dev33 (d0 : Dev nD) : Nat :=
  let c0_i32_1323 : BitVec 32 := 0#32
  let c4_i32_65 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v95 : BitVec 32 := Scalar.muli c4_i32_65 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_66 : BitVec 32 := 3#32
  let v96 : BitVec 32 := Scalar.addi v29 c3_i32_66
  let c4_i32_67 : BitVec 32 := 4#32
  let v97 : BitVec 32 := Scalar.remsi v96 c4_i32_67
  let v98 : BitVec 32 := Scalar.addi v95 v97
  let c1_i32_1322 : BitVec 32 := 1#32
  let v722 : BitVec 32 := Scalar.muli v98 c1_i32_1322
  let v723 : BitVec 32 := Scalar.addi c0_i32_1323 v722
  v723.toNat
def k0_off4 (d0 : Dev nD) (c2_i32_1342 : BitVec 32) : Fin 3 → Nat :=
  let c0_1346 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1344 : BitVec 32 := 128#32
  let v758 : BitVec 32 := Scalar.muli v29 c128_i32_1344
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v756 : BitVec 32 := Scalar.addi v19 c2_i32_1342
  let c4_i32_1343 : BitVec 32 := 4#32
  let v757 : BitVec 32 := Scalar.remsi v756 c4_i32_1343
  let c32_i32_1345 : BitVec 32 := 32#32
  let v759 : BitVec 32 := Scalar.muli v757 c32_i32_1345
  let v760 : BitVec 32 := Scalar.addi v758 v759
  let v761 : Index := Scalar.indexCast v760
  let c0_1347 : Index := 0#32
  ![0, v761.toNat, 0]
def k0_dev34 (d0 : Dev nD) : Nat :=
  let c0_i32_1364 : BitVec 32 := 0#32
  let c4_i32_142 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_140 : BitVec 32 := 2#32
  let v190 : BitVec 32 := Scalar.addi v19 c2_i32_140
  let c4_i32_141 : BitVec 32 := 4#32
  let v191 : BitVec 32 := Scalar.remsi v190 c4_i32_141
  let v192 : BitVec 32 := Scalar.muli c4_i32_142 v191
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1363 : BitVec 32 := 1#32
  let v776 : BitVec 32 := Scalar.muli v193 c1_i32_1363
  let v777 : BitVec 32 := Scalar.addi c0_i32_1364 v776
  v777.toNat
def k0_dev35 (d0 : Dev nD) : Nat :=
  let c0_i32_1406 : BitVec 32 := 0#32
  let c4_i32_139 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_137 : BitVec 32 := 1#32
  let v186 : BitVec 32 := Scalar.addi v19 c1_i32_137
  let c4_i32_138 : BitVec 32 := 4#32
  let v187 : BitVec 32 := Scalar.remsi v186 c4_i32_138
  let v188 : BitVec 32 := Scalar.muli c4_i32_139 v187
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v189 : BitVec 32 := Scalar.addi v188 v29
  let c1_i32_1405 : BitVec 32 := 1#32
  let v830 : BitVec 32 := Scalar.muli v189 c1_i32_1405
  let v831 : BitVec 32 := Scalar.addi c0_i32_1406 v830
  v831.toNat
def k0_dev36 (d0 : Dev nD) : Nat :=
  let c0_i32_1447 : BitVec 32 := 0#32
  let c4_i32_145 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_143 : BitVec 32 := 3#32
  let v194 : BitVec 32 := Scalar.addi v19 c3_i32_143
  let c4_i32_144 : BitVec 32 := 4#32
  let v195 : BitVec 32 := Scalar.remsi v194 c4_i32_144
  let v196 : BitVec 32 := Scalar.muli c4_i32_145 v195
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v197 : BitVec 32 := Scalar.addi v196 v29
  let c1_i32_1446 : BitVec 32 := 1#32
  let v884 : BitVec 32 := Scalar.muli v197 c1_i32_1446
  let v885 : BitVec 32 := Scalar.addi c0_i32_1447 v884
  v885.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_402 : BitVec 32 := 2#32
  let v282 : BitVec 1 := Scalar.cmpi .eq v19 c2_i32_402
  let v283 : BitVec 32 := Scalar.extui v282
  let c0_i32_499 : BitVec 32 := 0#32
  let v284 : BitVec 1 := Scalar.cmpi .ne v283 c0_i32_499
  v284

def k0_off5 (d0 : Dev nD) (c1_i32_93 : BitVec 32) (c2_i32_91 : BitVec 32) : Fin 3 → Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v130 : BitVec 32 := Scalar.addi v29 c1_i32_93
  let c4_i32_94 : BitVec 32 := 4#32
  let v131 : BitVec 32 := Scalar.remsi v130 c4_i32_94
  let c128_i32_95 : BitVec 32 := 128#32
  let v132 : BitVec 32 := Scalar.muli v131 c128_i32_95
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v128 : BitVec 32 := Scalar.addi v19 c2_i32_91
  let c4_i32_92 : BitVec 32 := 4#32
  let v129 : BitVec 32 := Scalar.remsi v128 c4_i32_92
  let c32_i32_96 : BitVec 32 := 32#32
  let v133 : BitVec 32 := Scalar.muli v129 c32_i32_96
  let v134 : BitVec 32 := Scalar.addi v132 v133
  let c0_i32_1271 : BitVec 32 := 0#32
  ![0, v134.toNat, 0]
def k0_dev37 (d0 : Dev nD) : Nat :=
  let c0_i32_1268 : BitVec 32 := 0#32
  let c4_i32_97 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v135 : BitVec 32 := Scalar.muli c4_i32_97 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_98 : BitVec 32 := 1#32
  let v136 : BitVec 32 := Scalar.addi v29 c1_i32_98
  let c4_i32_99 : BitVec 32 := 4#32
  let v137 : BitVec 32 := Scalar.remsi v136 c4_i32_99
  let v138 : BitVec 32 := Scalar.addi v135 v137
  let c1_i32_1267 : BitVec 32 := 1#32
  let v612 : BitVec 32 := Scalar.muli v138 c1_i32_1267
  let v613 : BitVec 32 := Scalar.addi c0_i32_1268 v612
  v613.toNat
def k0_dev38 (d0 : Dev nD) : Nat :=
  let c0_i32_1273 : BitVec 32 := 0#32
  let c4_i32_104 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.muli c4_i32_104 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_105 : BitVec 32 := 2#32
  let v145 : BitVec 32 := Scalar.addi v29 c2_i32_105
  let c4_i32_106 : BitVec 32 := 4#32
  let v146 : BitVec 32 := Scalar.remsi v145 c4_i32_106
  let v147 : BitVec 32 := Scalar.addi v144 v146
  let c1_i32_1272 : BitVec 32 := 1#32
  let v622 : BitVec 32 := Scalar.muli v147 c1_i32_1272
  let v623 : BitVec 32 := Scalar.addi c0_i32_1273 v622
  v623.toNat
def k0_dev39 (d0 : Dev nD) : Nat :=
  let c0_i32_1278 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.muli c4_i32_111 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_112 : BitVec 32 := 3#32
  let v154 : BitVec 32 := Scalar.addi v29 c3_i32_112
  let c4_i32_113 : BitVec 32 := 4#32
  let v155 : BitVec 32 := Scalar.remsi v154 c4_i32_113
  let v156 : BitVec 32 := Scalar.addi v153 v155
  let c1_i32_1277 : BitVec 32 := 1#32
  let v632 : BitVec 32 := Scalar.muli v156 c1_i32_1277
  let v633 : BitVec 32 := Scalar.addi c0_i32_1278 v632
  v633.toNat
def k0_dev40 (d0 : Dev nD) : Nat :=
  let c0_i32_1283 : BitVec 32 := 0#32
  let c4_i32_74 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.muli c4_i32_74 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_75 : BitVec 32 := 1#32
  let v107 : BitVec 32 := Scalar.addi v29 c1_i32_75
  let c4_i32_76 : BitVec 32 := 4#32
  let v108 : BitVec 32 := Scalar.remsi v107 c4_i32_76
  let v109 : BitVec 32 := Scalar.addi v106 v108
  let c1_i32_1282 : BitVec 32 := 1#32
  let v642 : BitVec 32 := Scalar.muli v109 c1_i32_1282
  let v643 : BitVec 32 := Scalar.addi c0_i32_1283 v642
  v643.toNat
def k0_dev41 (d0 : Dev nD) : Nat :=
  let c0_i32_1288 : BitVec 32 := 0#32
  let c4_i32_81 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v115 : BitVec 32 := Scalar.muli c4_i32_81 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_82 : BitVec 32 := 2#32
  let v116 : BitVec 32 := Scalar.addi v29 c2_i32_82
  let c4_i32_83 : BitVec 32 := 4#32
  let v117 : BitVec 32 := Scalar.remsi v116 c4_i32_83
  let v118 : BitVec 32 := Scalar.addi v115 v117
  let c1_i32_1287 : BitVec 32 := 1#32
  let v652 : BitVec 32 := Scalar.muli v118 c1_i32_1287
  let v653 : BitVec 32 := Scalar.addi c0_i32_1288 v652
  v653.toNat
def k0_dev42 (d0 : Dev nD) : Nat :=
  let c0_i32_1293 : BitVec 32 := 0#32
  let c4_i32_88 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v124 : BitVec 32 := Scalar.muli c4_i32_88 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_89 : BitVec 32 := 3#32
  let v125 : BitVec 32 := Scalar.addi v29 c3_i32_89
  let c4_i32_90 : BitVec 32 := 4#32
  let v126 : BitVec 32 := Scalar.remsi v125 c4_i32_90
  let v127 : BitVec 32 := Scalar.addi v124 v126
  let c1_i32_1292 : BitVec 32 := 1#32
  let v662 : BitVec 32 := Scalar.muli v127 c1_i32_1292
  let v663 : BitVec 32 := Scalar.addi c0_i32_1293 v662
  v663.toNat
def k0_dev43 (d0 : Dev nD) : Nat :=
  let c0_i32_1298 : BitVec 32 := 0#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v164 : BitVec 32 := Scalar.muli c4_i32_120 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_121 : BitVec 32 := 1#32
  let v165 : BitVec 32 := Scalar.addi v29 c1_i32_121
  let c4_i32_122 : BitVec 32 := 4#32
  let v166 : BitVec 32 := Scalar.remsi v165 c4_i32_122
  let v167 : BitVec 32 := Scalar.addi v164 v166
  let c1_i32_1297 : BitVec 32 := 1#32
  let v672 : BitVec 32 := Scalar.muli v167 c1_i32_1297
  let v673 : BitVec 32 := Scalar.addi c0_i32_1298 v672
  v673.toNat
def k0_dev44 (d0 : Dev nD) : Nat :=
  let c0_i32_1303 : BitVec 32 := 0#32
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v173 : BitVec 32 := Scalar.muli c4_i32_127 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_128 : BitVec 32 := 2#32
  let v174 : BitVec 32 := Scalar.addi v29 c2_i32_128
  let c4_i32_129 : BitVec 32 := 4#32
  let v175 : BitVec 32 := Scalar.remsi v174 c4_i32_129
  let v176 : BitVec 32 := Scalar.addi v173 v175
  let c1_i32_1302 : BitVec 32 := 1#32
  let v682 : BitVec 32 := Scalar.muli v176 c1_i32_1302
  let v683 : BitVec 32 := Scalar.addi c0_i32_1303 v682
  v683.toNat
def k0_dev45 (d0 : Dev nD) : Nat :=
  let c0_i32_1308 : BitVec 32 := 0#32
  let c4_i32_134 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v182 : BitVec 32 := Scalar.muli c4_i32_134 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_135 : BitVec 32 := 3#32
  let v183 : BitVec 32 := Scalar.addi v29 c3_i32_135
  let c4_i32_136 : BitVec 32 := 4#32
  let v184 : BitVec 32 := Scalar.remsi v183 c4_i32_136
  let v185 : BitVec 32 := Scalar.addi v182 v184
  let c1_i32_1307 : BitVec 32 := 1#32
  let v692 : BitVec 32 := Scalar.muli v185 c1_i32_1307
  let v693 : BitVec 32 := Scalar.addi c0_i32_1308 v692
  v693.toNat
def k0_dev46 (d0 : Dev nD) : Nat :=
  let c0_i32_1313 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v77 : BitVec 32 := Scalar.muli c4_i32_51 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_52 : BitVec 32 := 1#32
  let v78 : BitVec 32 := Scalar.addi v29 c1_i32_52
  let c4_i32_53 : BitVec 32 := 4#32
  let v79 : BitVec 32 := Scalar.remsi v78 c4_i32_53
  let v80 : BitVec 32 := Scalar.addi v77 v79
  let c1_i32_1312 : BitVec 32 := 1#32
  let v702 : BitVec 32 := Scalar.muli v80 c1_i32_1312
  let v703 : BitVec 32 := Scalar.addi c0_i32_1313 v702
  v703.toNat
def k0_dev47 (d0 : Dev nD) : Nat :=
  let c0_i32_1318 : BitVec 32 := 0#32
  let c4_i32_58 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v86 : BitVec 32 := Scalar.muli c4_i32_58 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_59 : BitVec 32 := 2#32
  let v87 : BitVec 32 := Scalar.addi v29 c2_i32_59
  let c4_i32_60 : BitVec 32 := 4#32
  let v88 : BitVec 32 := Scalar.remsi v87 c4_i32_60
  let v89 : BitVec 32 := Scalar.addi v86 v88
  let c1_i32_1317 : BitVec 32 := 1#32
  let v712 : BitVec 32 := Scalar.muli v89 c1_i32_1317
  let v713 : BitVec 32 := Scalar.addi c0_i32_1318 v712
  v713.toNat
def k0_dev48 (d0 : Dev nD) : Nat :=
  let c0_i32_1323 : BitVec 32 := 0#32
  let c4_i32_65 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v95 : BitVec 32 := Scalar.muli c4_i32_65 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_66 : BitVec 32 := 3#32
  let v96 : BitVec 32 := Scalar.addi v29 c3_i32_66
  let c4_i32_67 : BitVec 32 := 4#32
  let v97 : BitVec 32 := Scalar.remsi v96 c4_i32_67
  let v98 : BitVec 32 := Scalar.addi v95 v97
  let c1_i32_1322 : BitVec 32 := 1#32
  let v722 : BitVec 32 := Scalar.muli v98 c1_i32_1322
  let v723 : BitVec 32 := Scalar.addi c0_i32_1323 v722
  v723.toNat
def k0_off6 (d0 : Dev nD) (c2_i32_1342 : BitVec 32) : Fin 3 → Nat :=
  let c0_1346 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1344 : BitVec 32 := 128#32
  let v758 : BitVec 32 := Scalar.muli v29 c128_i32_1344
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v756 : BitVec 32 := Scalar.addi v19 c2_i32_1342
  let c4_i32_1343 : BitVec 32 := 4#32
  let v757 : BitVec 32 := Scalar.remsi v756 c4_i32_1343
  let c32_i32_1345 : BitVec 32 := 32#32
  let v759 : BitVec 32 := Scalar.muli v757 c32_i32_1345
  let v760 : BitVec 32 := Scalar.addi v758 v759
  let v761 : Index := Scalar.indexCast v760
  let c0_1347 : Index := 0#32
  ![0, v761.toNat, 0]
def k0_dev49 (d0 : Dev nD) : Nat :=
  let c0_i32_1364 : BitVec 32 := 0#32
  let c4_i32_142 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_140 : BitVec 32 := 2#32
  let v190 : BitVec 32 := Scalar.addi v19 c2_i32_140
  let c4_i32_141 : BitVec 32 := 4#32
  let v191 : BitVec 32 := Scalar.remsi v190 c4_i32_141
  let v192 : BitVec 32 := Scalar.muli c4_i32_142 v191
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1363 : BitVec 32 := 1#32
  let v776 : BitVec 32 := Scalar.muli v193 c1_i32_1363
  let v777 : BitVec 32 := Scalar.addi c0_i32_1364 v776
  v777.toNat
def k0_dev50 (d0 : Dev nD) : Nat :=
  let c0_i32_1406 : BitVec 32 := 0#32
  let c4_i32_139 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_137 : BitVec 32 := 1#32
  let v186 : BitVec 32 := Scalar.addi v19 c1_i32_137
  let c4_i32_138 : BitVec 32 := 4#32
  let v187 : BitVec 32 := Scalar.remsi v186 c4_i32_138
  let v188 : BitVec 32 := Scalar.muli c4_i32_139 v187
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v189 : BitVec 32 := Scalar.addi v188 v29
  let c1_i32_1405 : BitVec 32 := 1#32
  let v830 : BitVec 32 := Scalar.muli v189 c1_i32_1405
  let v831 : BitVec 32 := Scalar.addi c0_i32_1406 v830
  v831.toNat
def k0_dev51 (d0 : Dev nD) : Nat :=
  let c0_i32_1447 : BitVec 32 := 0#32
  let c4_i32_145 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_143 : BitVec 32 := 3#32
  let v194 : BitVec 32 := Scalar.addi v19 c3_i32_143
  let c4_i32_144 : BitVec 32 := 4#32
  let v195 : BitVec 32 := Scalar.remsi v194 c4_i32_144
  let v196 : BitVec 32 := Scalar.muli c4_i32_145 v195
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v197 : BitVec 32 := Scalar.addi v196 v29
  let c1_i32_1446 : BitVec 32 := 1#32
  let v884 : BitVec 32 := Scalar.muli v197 c1_i32_1446
  let v885 : BitVec 32 := Scalar.addi c0_i32_1447 v884
  v885.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_500 : BitVec 32 := 3#32
  let v285 : BitVec 1 := Scalar.cmpi .eq v19 c3_i32_500
  let v286 : BitVec 32 := Scalar.extui v285
  let c0_i32_597 : BitVec 32 := 0#32
  let v287 : BitVec 1 := Scalar.cmpi .ne v286 c0_i32_597
  v287

def k0_off7 (d0 : Dev nD) (c1_i32_70 : BitVec 32) (c1_i32_68 : BitVec 32) : Fin 3 → Nat :=
  let c0_i32_501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v101 : BitVec 32 := Scalar.addi v29 c1_i32_70
  let c4_i32_71 : BitVec 32 := 4#32
  let v102 : BitVec 32 := Scalar.remsi v101 c4_i32_71
  let c128_i32_72 : BitVec 32 := 128#32
  let v103 : BitVec 32 := Scalar.muli v102 c128_i32_72
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v99 : BitVec 32 := Scalar.addi v19 c1_i32_68
  let c4_i32_69 : BitVec 32 := 4#32
  let v100 : BitVec 32 := Scalar.remsi v99 c4_i32_69
  let c32_i32_73 : BitVec 32 := 32#32
  let v104 : BitVec 32 := Scalar.muli v100 c32_i32_73
  let v105 : BitVec 32 := Scalar.addi v103 v104
  let c0_i32_1271 : BitVec 32 := 0#32
  ![0, v105.toNat, 0]
def k0_dev52 (d0 : Dev nD) : Nat :=
  let c0_i32_1268 : BitVec 32 := 0#32
  let c4_i32_74 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v106 : BitVec 32 := Scalar.muli c4_i32_74 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_75 : BitVec 32 := 1#32
  let v107 : BitVec 32 := Scalar.addi v29 c1_i32_75
  let c4_i32_76 : BitVec 32 := 4#32
  let v108 : BitVec 32 := Scalar.remsi v107 c4_i32_76
  let v109 : BitVec 32 := Scalar.addi v106 v108
  let c1_i32_1267 : BitVec 32 := 1#32
  let v612 : BitVec 32 := Scalar.muli v109 c1_i32_1267
  let v613 : BitVec 32 := Scalar.addi c0_i32_1268 v612
  v613.toNat
def k0_dev53 (d0 : Dev nD) : Nat :=
  let c0_i32_1273 : BitVec 32 := 0#32
  let c4_i32_81 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v115 : BitVec 32 := Scalar.muli c4_i32_81 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_82 : BitVec 32 := 2#32
  let v116 : BitVec 32 := Scalar.addi v29 c2_i32_82
  let c4_i32_83 : BitVec 32 := 4#32
  let v117 : BitVec 32 := Scalar.remsi v116 c4_i32_83
  let v118 : BitVec 32 := Scalar.addi v115 v117
  let c1_i32_1272 : BitVec 32 := 1#32
  let v622 : BitVec 32 := Scalar.muli v118 c1_i32_1272
  let v623 : BitVec 32 := Scalar.addi c0_i32_1273 v622
  v623.toNat
def k0_dev54 (d0 : Dev nD) : Nat :=
  let c0_i32_1278 : BitVec 32 := 0#32
  let c4_i32_88 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v124 : BitVec 32 := Scalar.muli c4_i32_88 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_89 : BitVec 32 := 3#32
  let v125 : BitVec 32 := Scalar.addi v29 c3_i32_89
  let c4_i32_90 : BitVec 32 := 4#32
  let v126 : BitVec 32 := Scalar.remsi v125 c4_i32_90
  let v127 : BitVec 32 := Scalar.addi v124 v126
  let c1_i32_1277 : BitVec 32 := 1#32
  let v632 : BitVec 32 := Scalar.muli v127 c1_i32_1277
  let v633 : BitVec 32 := Scalar.addi c0_i32_1278 v632
  v633.toNat
def k0_dev55 (d0 : Dev nD) : Nat :=
  let c0_i32_1283 : BitVec 32 := 0#32
  let c4_i32_97 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v135 : BitVec 32 := Scalar.muli c4_i32_97 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_98 : BitVec 32 := 1#32
  let v136 : BitVec 32 := Scalar.addi v29 c1_i32_98
  let c4_i32_99 : BitVec 32 := 4#32
  let v137 : BitVec 32 := Scalar.remsi v136 c4_i32_99
  let v138 : BitVec 32 := Scalar.addi v135 v137
  let c1_i32_1282 : BitVec 32 := 1#32
  let v642 : BitVec 32 := Scalar.muli v138 c1_i32_1282
  let v643 : BitVec 32 := Scalar.addi c0_i32_1283 v642
  v643.toNat
def k0_dev56 (d0 : Dev nD) : Nat :=
  let c0_i32_1288 : BitVec 32 := 0#32
  let c4_i32_104 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v144 : BitVec 32 := Scalar.muli c4_i32_104 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_105 : BitVec 32 := 2#32
  let v145 : BitVec 32 := Scalar.addi v29 c2_i32_105
  let c4_i32_106 : BitVec 32 := 4#32
  let v146 : BitVec 32 := Scalar.remsi v145 c4_i32_106
  let v147 : BitVec 32 := Scalar.addi v144 v146
  let c1_i32_1287 : BitVec 32 := 1#32
  let v652 : BitVec 32 := Scalar.muli v147 c1_i32_1287
  let v653 : BitVec 32 := Scalar.addi c0_i32_1288 v652
  v653.toNat
def k0_dev57 (d0 : Dev nD) : Nat :=
  let c0_i32_1293 : BitVec 32 := 0#32
  let c4_i32_111 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v153 : BitVec 32 := Scalar.muli c4_i32_111 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_112 : BitVec 32 := 3#32
  let v154 : BitVec 32 := Scalar.addi v29 c3_i32_112
  let c4_i32_113 : BitVec 32 := 4#32
  let v155 : BitVec 32 := Scalar.remsi v154 c4_i32_113
  let v156 : BitVec 32 := Scalar.addi v153 v155
  let c1_i32_1292 : BitVec 32 := 1#32
  let v662 : BitVec 32 := Scalar.muli v156 c1_i32_1292
  let v663 : BitVec 32 := Scalar.addi c0_i32_1293 v662
  v663.toNat
def k0_dev58 (d0 : Dev nD) : Nat :=
  let c0_i32_1298 : BitVec 32 := 0#32
  let c4_i32_120 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v164 : BitVec 32 := Scalar.muli c4_i32_120 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_121 : BitVec 32 := 1#32
  let v165 : BitVec 32 := Scalar.addi v29 c1_i32_121
  let c4_i32_122 : BitVec 32 := 4#32
  let v166 : BitVec 32 := Scalar.remsi v165 c4_i32_122
  let v167 : BitVec 32 := Scalar.addi v164 v166
  let c1_i32_1297 : BitVec 32 := 1#32
  let v672 : BitVec 32 := Scalar.muli v167 c1_i32_1297
  let v673 : BitVec 32 := Scalar.addi c0_i32_1298 v672
  v673.toNat
def k0_dev59 (d0 : Dev nD) : Nat :=
  let c0_i32_1303 : BitVec 32 := 0#32
  let c4_i32_127 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v173 : BitVec 32 := Scalar.muli c4_i32_127 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_128 : BitVec 32 := 2#32
  let v174 : BitVec 32 := Scalar.addi v29 c2_i32_128
  let c4_i32_129 : BitVec 32 := 4#32
  let v175 : BitVec 32 := Scalar.remsi v174 c4_i32_129
  let v176 : BitVec 32 := Scalar.addi v173 v175
  let c1_i32_1302 : BitVec 32 := 1#32
  let v682 : BitVec 32 := Scalar.muli v176 c1_i32_1302
  let v683 : BitVec 32 := Scalar.addi c0_i32_1303 v682
  v683.toNat
def k0_dev60 (d0 : Dev nD) : Nat :=
  let c0_i32_1308 : BitVec 32 := 0#32
  let c4_i32_134 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v182 : BitVec 32 := Scalar.muli c4_i32_134 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_135 : BitVec 32 := 3#32
  let v183 : BitVec 32 := Scalar.addi v29 c3_i32_135
  let c4_i32_136 : BitVec 32 := 4#32
  let v184 : BitVec 32 := Scalar.remsi v183 c4_i32_136
  let v185 : BitVec 32 := Scalar.addi v182 v184
  let c1_i32_1307 : BitVec 32 := 1#32
  let v692 : BitVec 32 := Scalar.muli v185 c1_i32_1307
  let v693 : BitVec 32 := Scalar.addi c0_i32_1308 v692
  v693.toNat
def k0_dev61 (d0 : Dev nD) : Nat :=
  let c0_i32_1313 : BitVec 32 := 0#32
  let c4_i32_51 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v77 : BitVec 32 := Scalar.muli c4_i32_51 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_52 : BitVec 32 := 1#32
  let v78 : BitVec 32 := Scalar.addi v29 c1_i32_52
  let c4_i32_53 : BitVec 32 := 4#32
  let v79 : BitVec 32 := Scalar.remsi v78 c4_i32_53
  let v80 : BitVec 32 := Scalar.addi v77 v79
  let c1_i32_1312 : BitVec 32 := 1#32
  let v702 : BitVec 32 := Scalar.muli v80 c1_i32_1312
  let v703 : BitVec 32 := Scalar.addi c0_i32_1313 v702
  v703.toNat
def k0_dev62 (d0 : Dev nD) : Nat :=
  let c0_i32_1318 : BitVec 32 := 0#32
  let c4_i32_58 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v86 : BitVec 32 := Scalar.muli c4_i32_58 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_59 : BitVec 32 := 2#32
  let v87 : BitVec 32 := Scalar.addi v29 c2_i32_59
  let c4_i32_60 : BitVec 32 := 4#32
  let v88 : BitVec 32 := Scalar.remsi v87 c4_i32_60
  let v89 : BitVec 32 := Scalar.addi v86 v88
  let c1_i32_1317 : BitVec 32 := 1#32
  let v712 : BitVec 32 := Scalar.muli v89 c1_i32_1317
  let v713 : BitVec 32 := Scalar.addi c0_i32_1318 v712
  v713.toNat
def k0_dev63 (d0 : Dev nD) : Nat :=
  let c0_i32_1323 : BitVec 32 := 0#32
  let c4_i32_65 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v95 : BitVec 32 := Scalar.muli c4_i32_65 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_66 : BitVec 32 := 3#32
  let v96 : BitVec 32 := Scalar.addi v29 c3_i32_66
  let c4_i32_67 : BitVec 32 := 4#32
  let v97 : BitVec 32 := Scalar.remsi v96 c4_i32_67
  let v98 : BitVec 32 := Scalar.addi v95 v97
  let c1_i32_1322 : BitVec 32 := 1#32
  let v722 : BitVec 32 := Scalar.muli v98 c1_i32_1322
  let v723 : BitVec 32 := Scalar.addi c0_i32_1323 v722
  v723.toNat
def k0_off8 (d0 : Dev nD) (c1_i32_1342 : BitVec 32) : Fin 3 → Nat :=
  let c0_1346 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_1344 : BitVec 32 := 128#32
  let v758 : BitVec 32 := Scalar.muli v29 c128_i32_1344
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v756 : BitVec 32 := Scalar.addi v19 c1_i32_1342
  let c4_i32_1343 : BitVec 32 := 4#32
  let v757 : BitVec 32 := Scalar.remsi v756 c4_i32_1343
  let c32_i32_1345 : BitVec 32 := 32#32
  let v759 : BitVec 32 := Scalar.muli v757 c32_i32_1345
  let v760 : BitVec 32 := Scalar.addi v758 v759
  let v761 : Index := Scalar.indexCast v760
  let c0_1347 : Index := 0#32
  ![0, v761.toNat, 0]
def k0_dev64 (d0 : Dev nD) : Nat :=
  let c0_i32_1364 : BitVec 32 := 0#32
  let c4_i32_139 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_137 : BitVec 32 := 1#32
  let v186 : BitVec 32 := Scalar.addi v19 c1_i32_137
  let c4_i32_138 : BitVec 32 := 4#32
  let v187 : BitVec 32 := Scalar.remsi v186 c4_i32_138
  let v188 : BitVec 32 := Scalar.muli c4_i32_139 v187
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v189 : BitVec 32 := Scalar.addi v188 v29
  let c1_i32_1363 : BitVec 32 := 1#32
  let v776 : BitVec 32 := Scalar.muli v189 c1_i32_1363
  let v777 : BitVec 32 := Scalar.addi c0_i32_1364 v776
  v777.toNat
def k0_dev65 (d0 : Dev nD) : Nat :=
  let c0_i32_1406 : BitVec 32 := 0#32
  let c4_i32_142 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_140 : BitVec 32 := 2#32
  let v190 : BitVec 32 := Scalar.addi v19 c2_i32_140
  let c4_i32_141 : BitVec 32 := 4#32
  let v191 : BitVec 32 := Scalar.remsi v190 c4_i32_141
  let v192 : BitVec 32 := Scalar.muli c4_i32_142 v191
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v193 : BitVec 32 := Scalar.addi v192 v29
  let c1_i32_1405 : BitVec 32 := 1#32
  let v830 : BitVec 32 := Scalar.muli v193 c1_i32_1405
  let v831 : BitVec 32 := Scalar.addi c0_i32_1406 v830
  v831.toNat
def k0_dev66 (d0 : Dev nD) : Nat :=
  let c0_i32_1447 : BitVec 32 := 0#32
  let c4_i32_145 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_143 : BitVec 32 := 3#32
  let v194 : BitVec 32 := Scalar.addi v19 c3_i32_143
  let c4_i32_144 : BitVec 32 := 4#32
  let v195 : BitVec 32 := Scalar.remsi v194 c4_i32_144
  let v196 : BitVec 32 := Scalar.muli c4_i32_145 v195
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v197 : BitVec 32 := Scalar.addi v196 v29
  let c1_i32_1446 : BitVec 32 := 1#32
  let v884 : BitVec 32 := Scalar.muli v197 c1_i32_1446
  let v885 : BitVec 32 := Scalar.addi c0_i32_1447 v884
  v885.toNat
def k0_off9 (d0 : Dev nD) (c1_i32_47 : BitVec 32) (c0_i32_45 : BitVec 32) : Fin 3 → Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v72 : BitVec 32 := Scalar.addi v29 c1_i32_47
  let c4_i32_48 : BitVec 32 := 4#32
  let v73 : BitVec 32 := Scalar.remsi v72 c4_i32_48
  let c128_i32_49 : BitVec 32 := 128#32
  let v74 : BitVec 32 := Scalar.muli v73 c128_i32_49
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v70 : BitVec 32 := Scalar.addi v19 c0_i32_45
  let c4_i32_46 : BitVec 32 := 4#32
  let v71 : BitVec 32 := Scalar.remsi v70 c4_i32_46
  let c32_i32_50 : BitVec 32 := 32#32
  let v75 : BitVec 32 := Scalar.muli v71 c32_i32_50
  let v76 : BitVec 32 := Scalar.addi v74 v75
  let c0_i32_609 : BitVec 32 := 0#32
  ![0, v76.toNat, 0]
def k0_off10 (d0 : Dev nD) : Fin 3 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let v312 : Index := Scalar.indexCast v32
  let c0_634 : Index := 0#32
  ![0, v312.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let v357 : Index := Scalar.indexCast v32
  let c0_684 : Index := 0#32
  ![v357.toNat, 0]
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_689 : BitVec 32 := 0#32
  let v378 : BitVec 1 := Scalar.cmpi .eq v19 c0_i32_689
  let v379 : BitVec 32 := Scalar.extui v378
  let c0_i32_744 : BitVec 32 := 0#32
  let v380 : BitVec 1 := Scalar.cmpi .ne v379 c0_i32_744
  v380

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let c0_i32_1269 : BitVec 32 := 0#32
  ![v32.toNat, 0]
def k0_dev67 (d0 : Dev nD) : Nat :=
  let c0_i32_1268 : BitVec 32 := 0#32
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_152 : BitVec 32 := 3#32
  let v206 : BitVec 32 := Scalar.addi v19 c3_i32_152
  let c4_i32_153 : BitVec 32 := 4#32
  let v207 : BitVec 32 := Scalar.remsi v206 c4_i32_153
  let v208 : BitVec 32 := Scalar.muli c4_i32_154 v207
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v209 : BitVec 32 := Scalar.addi v208 v29
  let c1_i32_1267 : BitVec 32 := 1#32
  let v612 : BitVec 32 := Scalar.muli v209 c1_i32_1267
  let v613 : BitVec 32 := Scalar.addi c0_i32_1268 v612
  v613.toNat
def k0_dev68 (d0 : Dev nD) : Nat :=
  let c0_i32_1272 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_149 : BitVec 32 := 2#32
  let v202 : BitVec 32 := Scalar.addi v19 c2_i32_149
  let c4_i32_150 : BitVec 32 := 4#32
  let v203 : BitVec 32 := Scalar.remsi v202 c4_i32_150
  let v204 : BitVec 32 := Scalar.muli c4_i32_151 v203
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v205 : BitVec 32 := Scalar.addi v204 v29
  let c1_i32_1271 : BitVec 32 := 1#32
  let v620 : BitVec 32 := Scalar.muli v205 c1_i32_1271
  let v621 : BitVec 32 := Scalar.addi c0_i32_1272 v620
  v621.toNat
def k0_dev69 (d0 : Dev nD) : Nat :=
  let c0_i32_1276 : BitVec 32 := 0#32
  let c4_i32_148 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_146 : BitVec 32 := 1#32
  let v198 : BitVec 32 := Scalar.addi v19 c1_i32_146
  let c4_i32_147 : BitVec 32 := 4#32
  let v199 : BitVec 32 := Scalar.remsi v198 c4_i32_147
  let v200 : BitVec 32 := Scalar.muli c4_i32_148 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c1_i32_1275 : BitVec 32 := 1#32
  let v628 : BitVec 32 := Scalar.muli v201 c1_i32_1275
  let v629 : BitVec 32 := Scalar.addi c0_i32_1276 v628
  v629.toNat
def k0_dev70 (d0 : Dev nD) : Nat :=
  let c0_i32_1280 : BitVec 32 := 0#32
  let c4_i32_155 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v210 : BitVec 32 := Scalar.muli c4_i32_155 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_156 : BitVec 32 := 1#32
  let v211 : BitVec 32 := Scalar.addi v29 c1_i32_156
  let c4_i32_157 : BitVec 32 := 4#32
  let v212 : BitVec 32 := Scalar.remsi v211 c4_i32_157
  let v213 : BitVec 32 := Scalar.addi v210 v212
  let c1_i32_1279 : BitVec 32 := 1#32
  let v636 : BitVec 32 := Scalar.muli v213 c1_i32_1279
  let v637 : BitVec 32 := Scalar.addi c0_i32_1280 v636
  v637.toNat
def k0_dev71 (d0 : Dev nD) : Nat :=
  let c0_i32_1284 : BitVec 32 := 0#32
  let c4_i32_158 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v214 : BitVec 32 := Scalar.muli c4_i32_158 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_159 : BitVec 32 := 2#32
  let v215 : BitVec 32 := Scalar.addi v29 c2_i32_159
  let c4_i32_160 : BitVec 32 := 4#32
  let v216 : BitVec 32 := Scalar.remsi v215 c4_i32_160
  let v217 : BitVec 32 := Scalar.addi v214 v216
  let c1_i32_1283 : BitVec 32 := 1#32
  let v644 : BitVec 32 := Scalar.muli v217 c1_i32_1283
  let v645 : BitVec 32 := Scalar.addi c0_i32_1284 v644
  v645.toNat
def k0_dev72 (d0 : Dev nD) : Nat :=
  let c0_i32_1288 : BitVec 32 := 0#32
  let c4_i32_161 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v218 : BitVec 32 := Scalar.muli c4_i32_161 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_162 : BitVec 32 := 3#32
  let v219 : BitVec 32 := Scalar.addi v29 c3_i32_162
  let c4_i32_163 : BitVec 32 := 4#32
  let v220 : BitVec 32 := Scalar.remsi v219 c4_i32_163
  let v221 : BitVec 32 := Scalar.addi v218 v220
  let c1_i32_1287 : BitVec 32 := 1#32
  let v652 : BitVec 32 := Scalar.muli v221 c1_i32_1287
  let v653 : BitVec 32 := Scalar.addi c0_i32_1288 v652
  v653.toNat
def k0_off13 (d0 : Dev nD) (c3_i32_193 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_192 : BitVec 32 := 128#32
  let v258 : BitVec 32 := Scalar.muli v29 c128_i32_192
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v259 : BitVec 32 := Scalar.subi v19 c3_i32_193
  let c4_i32_194 : BitVec 32 := 4#32
  let v260 : BitVec 32 := Scalar.addi v259 c4_i32_194
  let c4_i32_195 : BitVec 32 := 4#32
  let v261 : BitVec 32 := Scalar.remsi v260 c4_i32_195
  let c32_i32_196 : BitVec 32 := 32#32
  let v262 : BitVec 32 := Scalar.muli v261 c32_i32_196
  let v263 : BitVec 32 := Scalar.addi v258 v262
  let c0_i32_1297 : BitVec 32 := 0#32
  ![v263.toNat, 0]
def k0_dev73 (d0 : Dev nD) : Nat :=
  let c0_i32_1296 : BitVec 32 := 0#32
  let c4_i32_197 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.muli c4_i32_197 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v265 : BitVec 32 := Scalar.addi v29 c1_i32_198
  let c4_i32_199 : BitVec 32 := 4#32
  let v266 : BitVec 32 := Scalar.remsi v265 c4_i32_199
  let v267 : BitVec 32 := Scalar.addi v264 v266
  let c1_i32_1295 : BitVec 32 := 1#32
  let v666 : BitVec 32 := Scalar.muli v267 c1_i32_1295
  let v667 : BitVec 32 := Scalar.addi c0_i32_1296 v666
  v667.toNat
def k0_dev74 (d0 : Dev nD) : Nat :=
  let c0_i32_1300 : BitVec 32 := 0#32
  let c4_i32_200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v268 : BitVec 32 := Scalar.muli c4_i32_200 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_201 : BitVec 32 := 2#32
  let v269 : BitVec 32 := Scalar.addi v29 c2_i32_201
  let c4_i32_202 : BitVec 32 := 4#32
  let v270 : BitVec 32 := Scalar.remsi v269 c4_i32_202
  let v271 : BitVec 32 := Scalar.addi v268 v270
  let c1_i32_1299 : BitVec 32 := 1#32
  let v674 : BitVec 32 := Scalar.muli v271 c1_i32_1299
  let v675 : BitVec 32 := Scalar.addi c0_i32_1300 v674
  v675.toNat
def k0_dev75 (d0 : Dev nD) : Nat :=
  let c0_i32_1304 : BitVec 32 := 0#32
  let c4_i32_203 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.muli c4_i32_203 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_204 : BitVec 32 := 3#32
  let v273 : BitVec 32 := Scalar.addi v29 c3_i32_204
  let c4_i32_205 : BitVec 32 := 4#32
  let v274 : BitVec 32 := Scalar.remsi v273 c4_i32_205
  let v275 : BitVec 32 := Scalar.addi v272 v274
  let c1_i32_1303 : BitVec 32 := 1#32
  let v682 : BitVec 32 := Scalar.muli v275 c1_i32_1303
  let v683 : BitVec 32 := Scalar.addi c0_i32_1304 v682
  v683.toNat
def k0_dev76 (d0 : Dev nD) : Nat :=
  let c0_i32_1312 : BitVec 32 := 0#32
  let c4_i32_183 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v246 : BitVec 32 := Scalar.muli c4_i32_183 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_184 : BitVec 32 := 1#32
  let v247 : BitVec 32 := Scalar.addi v29 c1_i32_184
  let c4_i32_185 : BitVec 32 := 4#32
  let v248 : BitVec 32 := Scalar.remsi v247 c4_i32_185
  let v249 : BitVec 32 := Scalar.addi v246 v248
  let c1_i32_1311 : BitVec 32 := 1#32
  let v696 : BitVec 32 := Scalar.muli v249 c1_i32_1311
  let v697 : BitVec 32 := Scalar.addi c0_i32_1312 v696
  v697.toNat
def k0_dev77 (d0 : Dev nD) : Nat :=
  let c0_i32_1316 : BitVec 32 := 0#32
  let c4_i32_186 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v250 : BitVec 32 := Scalar.muli c4_i32_186 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_187 : BitVec 32 := 2#32
  let v251 : BitVec 32 := Scalar.addi v29 c2_i32_187
  let c4_i32_188 : BitVec 32 := 4#32
  let v252 : BitVec 32 := Scalar.remsi v251 c4_i32_188
  let v253 : BitVec 32 := Scalar.addi v250 v252
  let c1_i32_1315 : BitVec 32 := 1#32
  let v704 : BitVec 32 := Scalar.muli v253 c1_i32_1315
  let v705 : BitVec 32 := Scalar.addi c0_i32_1316 v704
  v705.toNat
def k0_dev78 (d0 : Dev nD) : Nat :=
  let c0_i32_1320 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v254 : BitVec 32 := Scalar.muli c4_i32_189 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_190 : BitVec 32 := 3#32
  let v255 : BitVec 32 := Scalar.addi v29 c3_i32_190
  let c4_i32_191 : BitVec 32 := 4#32
  let v256 : BitVec 32 := Scalar.remsi v255 c4_i32_191
  let v257 : BitVec 32 := Scalar.addi v254 v256
  let c1_i32_1319 : BitVec 32 := 1#32
  let v712 : BitVec 32 := Scalar.muli v257 c1_i32_1319
  let v713 : BitVec 32 := Scalar.addi c0_i32_1320 v712
  v713.toNat
def k0_dev79 (d0 : Dev nD) : Nat :=
  let c0_i32_1328 : BitVec 32 := 0#32
  let c4_i32_169 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v228 : BitVec 32 := Scalar.muli c4_i32_169 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_170 : BitVec 32 := 1#32
  let v229 : BitVec 32 := Scalar.addi v29 c1_i32_170
  let c4_i32_171 : BitVec 32 := 4#32
  let v230 : BitVec 32 := Scalar.remsi v229 c4_i32_171
  let v231 : BitVec 32 := Scalar.addi v228 v230
  let c1_i32_1327 : BitVec 32 := 1#32
  let v726 : BitVec 32 := Scalar.muli v231 c1_i32_1327
  let v727 : BitVec 32 := Scalar.addi c0_i32_1328 v726
  v727.toNat
def k0_dev80 (d0 : Dev nD) : Nat :=
  let c0_i32_1332 : BitVec 32 := 0#32
  let c4_i32_172 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v232 : BitVec 32 := Scalar.muli c4_i32_172 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_173 : BitVec 32 := 2#32
  let v233 : BitVec 32 := Scalar.addi v29 c2_i32_173
  let c4_i32_174 : BitVec 32 := 4#32
  let v234 : BitVec 32 := Scalar.remsi v233 c4_i32_174
  let v235 : BitVec 32 := Scalar.addi v232 v234
  let c1_i32_1331 : BitVec 32 := 1#32
  let v734 : BitVec 32 := Scalar.muli v235 c1_i32_1331
  let v735 : BitVec 32 := Scalar.addi c0_i32_1332 v734
  v735.toNat
def k0_dev81 (d0 : Dev nD) : Nat :=
  let c0_i32_1336 : BitVec 32 := 0#32
  let c4_i32_175 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v236 : BitVec 32 := Scalar.muli c4_i32_175 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v237 : BitVec 32 := Scalar.addi v29 c3_i32_176
  let c4_i32_177 : BitVec 32 := 4#32
  let v238 : BitVec 32 := Scalar.remsi v237 c4_i32_177
  let v239 : BitVec 32 := Scalar.addi v236 v238
  let c1_i32_1335 : BitVec 32 := 1#32
  let v742 : BitVec 32 := Scalar.muli v239 c1_i32_1335
  let v743 : BitVec 32 := Scalar.addi c0_i32_1336 v742
  v743.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_745 : BitVec 32 := 1#32
  let v381 : BitVec 1 := Scalar.cmpi .eq v19 c1_i32_745
  let v382 : BitVec 32 := Scalar.extui v381
  let c0_i32_800 : BitVec 32 := 0#32
  let v383 : BitVec 1 := Scalar.cmpi .ne v382 c0_i32_800
  v383

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let c0_i32_1269 : BitVec 32 := 0#32
  ![v32.toNat, 0]
def k0_dev82 (d0 : Dev nD) : Nat :=
  let c0_i32_1268 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_149 : BitVec 32 := 2#32
  let v202 : BitVec 32 := Scalar.addi v19 c2_i32_149
  let c4_i32_150 : BitVec 32 := 4#32
  let v203 : BitVec 32 := Scalar.remsi v202 c4_i32_150
  let v204 : BitVec 32 := Scalar.muli c4_i32_151 v203
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v205 : BitVec 32 := Scalar.addi v204 v29
  let c1_i32_1267 : BitVec 32 := 1#32
  let v612 : BitVec 32 := Scalar.muli v205 c1_i32_1267
  let v613 : BitVec 32 := Scalar.addi c0_i32_1268 v612
  v613.toNat
def k0_dev83 (d0 : Dev nD) : Nat :=
  let c0_i32_1272 : BitVec 32 := 0#32
  let c4_i32_148 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_146 : BitVec 32 := 1#32
  let v198 : BitVec 32 := Scalar.addi v19 c1_i32_146
  let c4_i32_147 : BitVec 32 := 4#32
  let v199 : BitVec 32 := Scalar.remsi v198 c4_i32_147
  let v200 : BitVec 32 := Scalar.muli c4_i32_148 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c1_i32_1271 : BitVec 32 := 1#32
  let v620 : BitVec 32 := Scalar.muli v201 c1_i32_1271
  let v621 : BitVec 32 := Scalar.addi c0_i32_1272 v620
  v621.toNat
def k0_dev84 (d0 : Dev nD) : Nat :=
  let c0_i32_1276 : BitVec 32 := 0#32
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_152 : BitVec 32 := 3#32
  let v206 : BitVec 32 := Scalar.addi v19 c3_i32_152
  let c4_i32_153 : BitVec 32 := 4#32
  let v207 : BitVec 32 := Scalar.remsi v206 c4_i32_153
  let v208 : BitVec 32 := Scalar.muli c4_i32_154 v207
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v209 : BitVec 32 := Scalar.addi v208 v29
  let c1_i32_1275 : BitVec 32 := 1#32
  let v628 : BitVec 32 := Scalar.muli v209 c1_i32_1275
  let v629 : BitVec 32 := Scalar.addi c0_i32_1276 v628
  v629.toNat
def k0_dev85 (d0 : Dev nD) : Nat :=
  let c0_i32_1280 : BitVec 32 := 0#32
  let c4_i32_155 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v210 : BitVec 32 := Scalar.muli c4_i32_155 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_156 : BitVec 32 := 1#32
  let v211 : BitVec 32 := Scalar.addi v29 c1_i32_156
  let c4_i32_157 : BitVec 32 := 4#32
  let v212 : BitVec 32 := Scalar.remsi v211 c4_i32_157
  let v213 : BitVec 32 := Scalar.addi v210 v212
  let c1_i32_1279 : BitVec 32 := 1#32
  let v636 : BitVec 32 := Scalar.muli v213 c1_i32_1279
  let v637 : BitVec 32 := Scalar.addi c0_i32_1280 v636
  v637.toNat
def k0_dev86 (d0 : Dev nD) : Nat :=
  let c0_i32_1284 : BitVec 32 := 0#32
  let c4_i32_158 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v214 : BitVec 32 := Scalar.muli c4_i32_158 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_159 : BitVec 32 := 2#32
  let v215 : BitVec 32 := Scalar.addi v29 c2_i32_159
  let c4_i32_160 : BitVec 32 := 4#32
  let v216 : BitVec 32 := Scalar.remsi v215 c4_i32_160
  let v217 : BitVec 32 := Scalar.addi v214 v216
  let c1_i32_1283 : BitVec 32 := 1#32
  let v644 : BitVec 32 := Scalar.muli v217 c1_i32_1283
  let v645 : BitVec 32 := Scalar.addi c0_i32_1284 v644
  v645.toNat
def k0_dev87 (d0 : Dev nD) : Nat :=
  let c0_i32_1288 : BitVec 32 := 0#32
  let c4_i32_161 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v218 : BitVec 32 := Scalar.muli c4_i32_161 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_162 : BitVec 32 := 3#32
  let v219 : BitVec 32 := Scalar.addi v29 c3_i32_162
  let c4_i32_163 : BitVec 32 := 4#32
  let v220 : BitVec 32 := Scalar.remsi v219 c4_i32_163
  let v221 : BitVec 32 := Scalar.addi v218 v220
  let c1_i32_1287 : BitVec 32 := 1#32
  let v652 : BitVec 32 := Scalar.muli v221 c1_i32_1287
  let v653 : BitVec 32 := Scalar.addi c0_i32_1288 v652
  v653.toNat
def k0_off15 (d0 : Dev nD) (c1_i32_165 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_164 : BitVec 32 := 128#32
  let v222 : BitVec 32 := Scalar.muli v29 c128_i32_164
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.subi v19 c1_i32_165
  let c4_i32_166 : BitVec 32 := 4#32
  let v224 : BitVec 32 := Scalar.addi v223 c4_i32_166
  let c4_i32_167 : BitVec 32 := 4#32
  let v225 : BitVec 32 := Scalar.remsi v224 c4_i32_167
  let c32_i32_168 : BitVec 32 := 32#32
  let v226 : BitVec 32 := Scalar.muli v225 c32_i32_168
  let v227 : BitVec 32 := Scalar.addi v222 v226
  let c0_i32_1297 : BitVec 32 := 0#32
  ![v227.toNat, 0]
def k0_dev88 (d0 : Dev nD) : Nat :=
  let c0_i32_1296 : BitVec 32 := 0#32
  let c4_i32_169 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v228 : BitVec 32 := Scalar.muli c4_i32_169 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_170 : BitVec 32 := 1#32
  let v229 : BitVec 32 := Scalar.addi v29 c1_i32_170
  let c4_i32_171 : BitVec 32 := 4#32
  let v230 : BitVec 32 := Scalar.remsi v229 c4_i32_171
  let v231 : BitVec 32 := Scalar.addi v228 v230
  let c1_i32_1295 : BitVec 32 := 1#32
  let v666 : BitVec 32 := Scalar.muli v231 c1_i32_1295
  let v667 : BitVec 32 := Scalar.addi c0_i32_1296 v666
  v667.toNat
def k0_dev89 (d0 : Dev nD) : Nat :=
  let c0_i32_1300 : BitVec 32 := 0#32
  let c4_i32_172 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v232 : BitVec 32 := Scalar.muli c4_i32_172 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_173 : BitVec 32 := 2#32
  let v233 : BitVec 32 := Scalar.addi v29 c2_i32_173
  let c4_i32_174 : BitVec 32 := 4#32
  let v234 : BitVec 32 := Scalar.remsi v233 c4_i32_174
  let v235 : BitVec 32 := Scalar.addi v232 v234
  let c1_i32_1299 : BitVec 32 := 1#32
  let v674 : BitVec 32 := Scalar.muli v235 c1_i32_1299
  let v675 : BitVec 32 := Scalar.addi c0_i32_1300 v674
  v675.toNat
def k0_dev90 (d0 : Dev nD) : Nat :=
  let c0_i32_1304 : BitVec 32 := 0#32
  let c4_i32_175 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v236 : BitVec 32 := Scalar.muli c4_i32_175 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v237 : BitVec 32 := Scalar.addi v29 c3_i32_176
  let c4_i32_177 : BitVec 32 := 4#32
  let v238 : BitVec 32 := Scalar.remsi v237 c4_i32_177
  let v239 : BitVec 32 := Scalar.addi v236 v238
  let c1_i32_1303 : BitVec 32 := 1#32
  let v682 : BitVec 32 := Scalar.muli v239 c1_i32_1303
  let v683 : BitVec 32 := Scalar.addi c0_i32_1304 v682
  v683.toNat
def k0_dev91 (d0 : Dev nD) : Nat :=
  let c0_i32_1312 : BitVec 32 := 0#32
  let c4_i32_197 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.muli c4_i32_197 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v265 : BitVec 32 := Scalar.addi v29 c1_i32_198
  let c4_i32_199 : BitVec 32 := 4#32
  let v266 : BitVec 32 := Scalar.remsi v265 c4_i32_199
  let v267 : BitVec 32 := Scalar.addi v264 v266
  let c1_i32_1311 : BitVec 32 := 1#32
  let v696 : BitVec 32 := Scalar.muli v267 c1_i32_1311
  let v697 : BitVec 32 := Scalar.addi c0_i32_1312 v696
  v697.toNat
def k0_dev92 (d0 : Dev nD) : Nat :=
  let c0_i32_1316 : BitVec 32 := 0#32
  let c4_i32_200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v268 : BitVec 32 := Scalar.muli c4_i32_200 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_201 : BitVec 32 := 2#32
  let v269 : BitVec 32 := Scalar.addi v29 c2_i32_201
  let c4_i32_202 : BitVec 32 := 4#32
  let v270 : BitVec 32 := Scalar.remsi v269 c4_i32_202
  let v271 : BitVec 32 := Scalar.addi v268 v270
  let c1_i32_1315 : BitVec 32 := 1#32
  let v704 : BitVec 32 := Scalar.muli v271 c1_i32_1315
  let v705 : BitVec 32 := Scalar.addi c0_i32_1316 v704
  v705.toNat
def k0_dev93 (d0 : Dev nD) : Nat :=
  let c0_i32_1320 : BitVec 32 := 0#32
  let c4_i32_203 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.muli c4_i32_203 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_204 : BitVec 32 := 3#32
  let v273 : BitVec 32 := Scalar.addi v29 c3_i32_204
  let c4_i32_205 : BitVec 32 := 4#32
  let v274 : BitVec 32 := Scalar.remsi v273 c4_i32_205
  let v275 : BitVec 32 := Scalar.addi v272 v274
  let c1_i32_1319 : BitVec 32 := 1#32
  let v712 : BitVec 32 := Scalar.muli v275 c1_i32_1319
  let v713 : BitVec 32 := Scalar.addi c0_i32_1320 v712
  v713.toNat
def k0_dev94 (d0 : Dev nD) : Nat :=
  let c0_i32_1328 : BitVec 32 := 0#32
  let c4_i32_183 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v246 : BitVec 32 := Scalar.muli c4_i32_183 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_184 : BitVec 32 := 1#32
  let v247 : BitVec 32 := Scalar.addi v29 c1_i32_184
  let c4_i32_185 : BitVec 32 := 4#32
  let v248 : BitVec 32 := Scalar.remsi v247 c4_i32_185
  let v249 : BitVec 32 := Scalar.addi v246 v248
  let c1_i32_1327 : BitVec 32 := 1#32
  let v726 : BitVec 32 := Scalar.muli v249 c1_i32_1327
  let v727 : BitVec 32 := Scalar.addi c0_i32_1328 v726
  v727.toNat
def k0_dev95 (d0 : Dev nD) : Nat :=
  let c0_i32_1332 : BitVec 32 := 0#32
  let c4_i32_186 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v250 : BitVec 32 := Scalar.muli c4_i32_186 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_187 : BitVec 32 := 2#32
  let v251 : BitVec 32 := Scalar.addi v29 c2_i32_187
  let c4_i32_188 : BitVec 32 := 4#32
  let v252 : BitVec 32 := Scalar.remsi v251 c4_i32_188
  let v253 : BitVec 32 := Scalar.addi v250 v252
  let c1_i32_1331 : BitVec 32 := 1#32
  let v734 : BitVec 32 := Scalar.muli v253 c1_i32_1331
  let v735 : BitVec 32 := Scalar.addi c0_i32_1332 v734
  v735.toNat
def k0_dev96 (d0 : Dev nD) : Nat :=
  let c0_i32_1336 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v254 : BitVec 32 := Scalar.muli c4_i32_189 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_190 : BitVec 32 := 3#32
  let v255 : BitVec 32 := Scalar.addi v29 c3_i32_190
  let c4_i32_191 : BitVec 32 := 4#32
  let v256 : BitVec 32 := Scalar.remsi v255 c4_i32_191
  let v257 : BitVec 32 := Scalar.addi v254 v256
  let c1_i32_1335 : BitVec 32 := 1#32
  let v742 : BitVec 32 := Scalar.muli v257 c1_i32_1335
  let v743 : BitVec 32 := Scalar.addi c0_i32_1336 v742
  v743.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_801 : BitVec 32 := 2#32
  let v384 : BitVec 1 := Scalar.cmpi .eq v19 c2_i32_801
  let v385 : BitVec 32 := Scalar.extui v384
  let c0_i32_856 : BitVec 32 := 0#32
  let v386 : BitVec 1 := Scalar.cmpi .ne v385 c0_i32_856
  v386

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let c0_i32_1269 : BitVec 32 := 0#32
  ![v32.toNat, 0]
def k0_dev97 (d0 : Dev nD) : Nat :=
  let c0_i32_1268 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_149 : BitVec 32 := 2#32
  let v202 : BitVec 32 := Scalar.addi v19 c2_i32_149
  let c4_i32_150 : BitVec 32 := 4#32
  let v203 : BitVec 32 := Scalar.remsi v202 c4_i32_150
  let v204 : BitVec 32 := Scalar.muli c4_i32_151 v203
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v205 : BitVec 32 := Scalar.addi v204 v29
  let c1_i32_1267 : BitVec 32 := 1#32
  let v612 : BitVec 32 := Scalar.muli v205 c1_i32_1267
  let v613 : BitVec 32 := Scalar.addi c0_i32_1268 v612
  v613.toNat
def k0_dev98 (d0 : Dev nD) : Nat :=
  let c0_i32_1272 : BitVec 32 := 0#32
  let c4_i32_148 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_146 : BitVec 32 := 1#32
  let v198 : BitVec 32 := Scalar.addi v19 c1_i32_146
  let c4_i32_147 : BitVec 32 := 4#32
  let v199 : BitVec 32 := Scalar.remsi v198 c4_i32_147
  let v200 : BitVec 32 := Scalar.muli c4_i32_148 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c1_i32_1271 : BitVec 32 := 1#32
  let v620 : BitVec 32 := Scalar.muli v201 c1_i32_1271
  let v621 : BitVec 32 := Scalar.addi c0_i32_1272 v620
  v621.toNat
def k0_dev99 (d0 : Dev nD) : Nat :=
  let c0_i32_1276 : BitVec 32 := 0#32
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_152 : BitVec 32 := 3#32
  let v206 : BitVec 32 := Scalar.addi v19 c3_i32_152
  let c4_i32_153 : BitVec 32 := 4#32
  let v207 : BitVec 32 := Scalar.remsi v206 c4_i32_153
  let v208 : BitVec 32 := Scalar.muli c4_i32_154 v207
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v209 : BitVec 32 := Scalar.addi v208 v29
  let c1_i32_1275 : BitVec 32 := 1#32
  let v628 : BitVec 32 := Scalar.muli v209 c1_i32_1275
  let v629 : BitVec 32 := Scalar.addi c0_i32_1276 v628
  v629.toNat
def k0_dev100 (d0 : Dev nD) : Nat :=
  let c0_i32_1280 : BitVec 32 := 0#32
  let c4_i32_155 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v210 : BitVec 32 := Scalar.muli c4_i32_155 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_156 : BitVec 32 := 1#32
  let v211 : BitVec 32 := Scalar.addi v29 c1_i32_156
  let c4_i32_157 : BitVec 32 := 4#32
  let v212 : BitVec 32 := Scalar.remsi v211 c4_i32_157
  let v213 : BitVec 32 := Scalar.addi v210 v212
  let c1_i32_1279 : BitVec 32 := 1#32
  let v636 : BitVec 32 := Scalar.muli v213 c1_i32_1279
  let v637 : BitVec 32 := Scalar.addi c0_i32_1280 v636
  v637.toNat
def k0_dev101 (d0 : Dev nD) : Nat :=
  let c0_i32_1284 : BitVec 32 := 0#32
  let c4_i32_158 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v214 : BitVec 32 := Scalar.muli c4_i32_158 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_159 : BitVec 32 := 2#32
  let v215 : BitVec 32 := Scalar.addi v29 c2_i32_159
  let c4_i32_160 : BitVec 32 := 4#32
  let v216 : BitVec 32 := Scalar.remsi v215 c4_i32_160
  let v217 : BitVec 32 := Scalar.addi v214 v216
  let c1_i32_1283 : BitVec 32 := 1#32
  let v644 : BitVec 32 := Scalar.muli v217 c1_i32_1283
  let v645 : BitVec 32 := Scalar.addi c0_i32_1284 v644
  v645.toNat
def k0_dev102 (d0 : Dev nD) : Nat :=
  let c0_i32_1288 : BitVec 32 := 0#32
  let c4_i32_161 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v218 : BitVec 32 := Scalar.muli c4_i32_161 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_162 : BitVec 32 := 3#32
  let v219 : BitVec 32 := Scalar.addi v29 c3_i32_162
  let c4_i32_163 : BitVec 32 := 4#32
  let v220 : BitVec 32 := Scalar.remsi v219 c4_i32_163
  let v221 : BitVec 32 := Scalar.addi v218 v220
  let c1_i32_1287 : BitVec 32 := 1#32
  let v652 : BitVec 32 := Scalar.muli v221 c1_i32_1287
  let v653 : BitVec 32 := Scalar.addi c0_i32_1288 v652
  v653.toNat
def k0_off17 (d0 : Dev nD) (c1_i32_165 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_164 : BitVec 32 := 128#32
  let v222 : BitVec 32 := Scalar.muli v29 c128_i32_164
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.subi v19 c1_i32_165
  let c4_i32_166 : BitVec 32 := 4#32
  let v224 : BitVec 32 := Scalar.addi v223 c4_i32_166
  let c4_i32_167 : BitVec 32 := 4#32
  let v225 : BitVec 32 := Scalar.remsi v224 c4_i32_167
  let c32_i32_168 : BitVec 32 := 32#32
  let v226 : BitVec 32 := Scalar.muli v225 c32_i32_168
  let v227 : BitVec 32 := Scalar.addi v222 v226
  let c0_i32_1297 : BitVec 32 := 0#32
  ![v227.toNat, 0]
def k0_dev103 (d0 : Dev nD) : Nat :=
  let c0_i32_1296 : BitVec 32 := 0#32
  let c4_i32_169 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v228 : BitVec 32 := Scalar.muli c4_i32_169 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_170 : BitVec 32 := 1#32
  let v229 : BitVec 32 := Scalar.addi v29 c1_i32_170
  let c4_i32_171 : BitVec 32 := 4#32
  let v230 : BitVec 32 := Scalar.remsi v229 c4_i32_171
  let v231 : BitVec 32 := Scalar.addi v228 v230
  let c1_i32_1295 : BitVec 32 := 1#32
  let v666 : BitVec 32 := Scalar.muli v231 c1_i32_1295
  let v667 : BitVec 32 := Scalar.addi c0_i32_1296 v666
  v667.toNat
def k0_dev104 (d0 : Dev nD) : Nat :=
  let c0_i32_1300 : BitVec 32 := 0#32
  let c4_i32_172 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v232 : BitVec 32 := Scalar.muli c4_i32_172 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_173 : BitVec 32 := 2#32
  let v233 : BitVec 32 := Scalar.addi v29 c2_i32_173
  let c4_i32_174 : BitVec 32 := 4#32
  let v234 : BitVec 32 := Scalar.remsi v233 c4_i32_174
  let v235 : BitVec 32 := Scalar.addi v232 v234
  let c1_i32_1299 : BitVec 32 := 1#32
  let v674 : BitVec 32 := Scalar.muli v235 c1_i32_1299
  let v675 : BitVec 32 := Scalar.addi c0_i32_1300 v674
  v675.toNat
def k0_dev105 (d0 : Dev nD) : Nat :=
  let c0_i32_1304 : BitVec 32 := 0#32
  let c4_i32_175 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v236 : BitVec 32 := Scalar.muli c4_i32_175 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v237 : BitVec 32 := Scalar.addi v29 c3_i32_176
  let c4_i32_177 : BitVec 32 := 4#32
  let v238 : BitVec 32 := Scalar.remsi v237 c4_i32_177
  let v239 : BitVec 32 := Scalar.addi v236 v238
  let c1_i32_1303 : BitVec 32 := 1#32
  let v682 : BitVec 32 := Scalar.muli v239 c1_i32_1303
  let v683 : BitVec 32 := Scalar.addi c0_i32_1304 v682
  v683.toNat
def k0_dev106 (d0 : Dev nD) : Nat :=
  let c0_i32_1312 : BitVec 32 := 0#32
  let c4_i32_197 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.muli c4_i32_197 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v265 : BitVec 32 := Scalar.addi v29 c1_i32_198
  let c4_i32_199 : BitVec 32 := 4#32
  let v266 : BitVec 32 := Scalar.remsi v265 c4_i32_199
  let v267 : BitVec 32 := Scalar.addi v264 v266
  let c1_i32_1311 : BitVec 32 := 1#32
  let v696 : BitVec 32 := Scalar.muli v267 c1_i32_1311
  let v697 : BitVec 32 := Scalar.addi c0_i32_1312 v696
  v697.toNat
def k0_dev107 (d0 : Dev nD) : Nat :=
  let c0_i32_1316 : BitVec 32 := 0#32
  let c4_i32_200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v268 : BitVec 32 := Scalar.muli c4_i32_200 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_201 : BitVec 32 := 2#32
  let v269 : BitVec 32 := Scalar.addi v29 c2_i32_201
  let c4_i32_202 : BitVec 32 := 4#32
  let v270 : BitVec 32 := Scalar.remsi v269 c4_i32_202
  let v271 : BitVec 32 := Scalar.addi v268 v270
  let c1_i32_1315 : BitVec 32 := 1#32
  let v704 : BitVec 32 := Scalar.muli v271 c1_i32_1315
  let v705 : BitVec 32 := Scalar.addi c0_i32_1316 v704
  v705.toNat
def k0_dev108 (d0 : Dev nD) : Nat :=
  let c0_i32_1320 : BitVec 32 := 0#32
  let c4_i32_203 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.muli c4_i32_203 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_204 : BitVec 32 := 3#32
  let v273 : BitVec 32 := Scalar.addi v29 c3_i32_204
  let c4_i32_205 : BitVec 32 := 4#32
  let v274 : BitVec 32 := Scalar.remsi v273 c4_i32_205
  let v275 : BitVec 32 := Scalar.addi v272 v274
  let c1_i32_1319 : BitVec 32 := 1#32
  let v712 : BitVec 32 := Scalar.muli v275 c1_i32_1319
  let v713 : BitVec 32 := Scalar.addi c0_i32_1320 v712
  v713.toNat
def k0_dev109 (d0 : Dev nD) : Nat :=
  let c0_i32_1328 : BitVec 32 := 0#32
  let c4_i32_183 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v246 : BitVec 32 := Scalar.muli c4_i32_183 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_184 : BitVec 32 := 1#32
  let v247 : BitVec 32 := Scalar.addi v29 c1_i32_184
  let c4_i32_185 : BitVec 32 := 4#32
  let v248 : BitVec 32 := Scalar.remsi v247 c4_i32_185
  let v249 : BitVec 32 := Scalar.addi v246 v248
  let c1_i32_1327 : BitVec 32 := 1#32
  let v726 : BitVec 32 := Scalar.muli v249 c1_i32_1327
  let v727 : BitVec 32 := Scalar.addi c0_i32_1328 v726
  v727.toNat
def k0_dev110 (d0 : Dev nD) : Nat :=
  let c0_i32_1332 : BitVec 32 := 0#32
  let c4_i32_186 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v250 : BitVec 32 := Scalar.muli c4_i32_186 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_187 : BitVec 32 := 2#32
  let v251 : BitVec 32 := Scalar.addi v29 c2_i32_187
  let c4_i32_188 : BitVec 32 := 4#32
  let v252 : BitVec 32 := Scalar.remsi v251 c4_i32_188
  let v253 : BitVec 32 := Scalar.addi v250 v252
  let c1_i32_1331 : BitVec 32 := 1#32
  let v734 : BitVec 32 := Scalar.muli v253 c1_i32_1331
  let v735 : BitVec 32 := Scalar.addi c0_i32_1332 v734
  v735.toNat
def k0_dev111 (d0 : Dev nD) : Nat :=
  let c0_i32_1336 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v254 : BitVec 32 := Scalar.muli c4_i32_189 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_190 : BitVec 32 := 3#32
  let v255 : BitVec 32 := Scalar.addi v29 c3_i32_190
  let c4_i32_191 : BitVec 32 := 4#32
  let v256 : BitVec 32 := Scalar.remsi v255 c4_i32_191
  let v257 : BitVec 32 := Scalar.addi v254 v256
  let c1_i32_1335 : BitVec 32 := 1#32
  let v742 : BitVec 32 := Scalar.muli v257 c1_i32_1335
  let v743 : BitVec 32 := Scalar.addi c0_i32_1336 v742
  v743.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_857 : BitVec 32 := 3#32
  let v387 : BitVec 1 := Scalar.cmpi .eq v19 c3_i32_857
  let v388 : BitVec 32 := Scalar.extui v387
  let c0_i32_912 : BitVec 32 := 0#32
  let v389 : BitVec 1 := Scalar.cmpi .ne v388 c0_i32_912
  v389

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let c0_i32_1269 : BitVec 32 := 0#32
  ![v32.toNat, 0]
def k0_dev112 (d0 : Dev nD) : Nat :=
  let c0_i32_1268 : BitVec 32 := 0#32
  let c4_i32_148 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_146 : BitVec 32 := 1#32
  let v198 : BitVec 32 := Scalar.addi v19 c1_i32_146
  let c4_i32_147 : BitVec 32 := 4#32
  let v199 : BitVec 32 := Scalar.remsi v198 c4_i32_147
  let v200 : BitVec 32 := Scalar.muli c4_i32_148 v199
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v201 : BitVec 32 := Scalar.addi v200 v29
  let c1_i32_1267 : BitVec 32 := 1#32
  let v612 : BitVec 32 := Scalar.muli v201 c1_i32_1267
  let v613 : BitVec 32 := Scalar.addi c0_i32_1268 v612
  v613.toNat
def k0_dev113 (d0 : Dev nD) : Nat :=
  let c0_i32_1272 : BitVec 32 := 0#32
  let c4_i32_151 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_149 : BitVec 32 := 2#32
  let v202 : BitVec 32 := Scalar.addi v19 c2_i32_149
  let c4_i32_150 : BitVec 32 := 4#32
  let v203 : BitVec 32 := Scalar.remsi v202 c4_i32_150
  let v204 : BitVec 32 := Scalar.muli c4_i32_151 v203
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v205 : BitVec 32 := Scalar.addi v204 v29
  let c1_i32_1271 : BitVec 32 := 1#32
  let v620 : BitVec 32 := Scalar.muli v205 c1_i32_1271
  let v621 : BitVec 32 := Scalar.addi c0_i32_1272 v620
  v621.toNat
def k0_dev114 (d0 : Dev nD) : Nat :=
  let c0_i32_1276 : BitVec 32 := 0#32
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_152 : BitVec 32 := 3#32
  let v206 : BitVec 32 := Scalar.addi v19 c3_i32_152
  let c4_i32_153 : BitVec 32 := 4#32
  let v207 : BitVec 32 := Scalar.remsi v206 c4_i32_153
  let v208 : BitVec 32 := Scalar.muli c4_i32_154 v207
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v209 : BitVec 32 := Scalar.addi v208 v29
  let c1_i32_1275 : BitVec 32 := 1#32
  let v628 : BitVec 32 := Scalar.muli v209 c1_i32_1275
  let v629 : BitVec 32 := Scalar.addi c0_i32_1276 v628
  v629.toNat
def k0_dev115 (d0 : Dev nD) : Nat :=
  let c0_i32_1280 : BitVec 32 := 0#32
  let c4_i32_155 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v210 : BitVec 32 := Scalar.muli c4_i32_155 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_156 : BitVec 32 := 1#32
  let v211 : BitVec 32 := Scalar.addi v29 c1_i32_156
  let c4_i32_157 : BitVec 32 := 4#32
  let v212 : BitVec 32 := Scalar.remsi v211 c4_i32_157
  let v213 : BitVec 32 := Scalar.addi v210 v212
  let c1_i32_1279 : BitVec 32 := 1#32
  let v636 : BitVec 32 := Scalar.muli v213 c1_i32_1279
  let v637 : BitVec 32 := Scalar.addi c0_i32_1280 v636
  v637.toNat
def k0_dev116 (d0 : Dev nD) : Nat :=
  let c0_i32_1284 : BitVec 32 := 0#32
  let c4_i32_158 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v214 : BitVec 32 := Scalar.muli c4_i32_158 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_159 : BitVec 32 := 2#32
  let v215 : BitVec 32 := Scalar.addi v29 c2_i32_159
  let c4_i32_160 : BitVec 32 := 4#32
  let v216 : BitVec 32 := Scalar.remsi v215 c4_i32_160
  let v217 : BitVec 32 := Scalar.addi v214 v216
  let c1_i32_1283 : BitVec 32 := 1#32
  let v644 : BitVec 32 := Scalar.muli v217 c1_i32_1283
  let v645 : BitVec 32 := Scalar.addi c0_i32_1284 v644
  v645.toNat
def k0_dev117 (d0 : Dev nD) : Nat :=
  let c0_i32_1288 : BitVec 32 := 0#32
  let c4_i32_161 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v218 : BitVec 32 := Scalar.muli c4_i32_161 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_162 : BitVec 32 := 3#32
  let v219 : BitVec 32 := Scalar.addi v29 c3_i32_162
  let c4_i32_163 : BitVec 32 := 4#32
  let v220 : BitVec 32 := Scalar.remsi v219 c4_i32_163
  let v221 : BitVec 32 := Scalar.addi v218 v220
  let c1_i32_1287 : BitVec 32 := 1#32
  let v652 : BitVec 32 := Scalar.muli v221 c1_i32_1287
  let v653 : BitVec 32 := Scalar.addi c0_i32_1288 v652
  v653.toNat
def k0_off19 (d0 : Dev nD) (c1_i32_165 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_164 : BitVec 32 := 128#32
  let v222 : BitVec 32 := Scalar.muli v29 c128_i32_164
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.subi v19 c1_i32_165
  let c4_i32_166 : BitVec 32 := 4#32
  let v224 : BitVec 32 := Scalar.addi v223 c4_i32_166
  let c4_i32_167 : BitVec 32 := 4#32
  let v225 : BitVec 32 := Scalar.remsi v224 c4_i32_167
  let c32_i32_168 : BitVec 32 := 32#32
  let v226 : BitVec 32 := Scalar.muli v225 c32_i32_168
  let v227 : BitVec 32 := Scalar.addi v222 v226
  let c0_i32_1297 : BitVec 32 := 0#32
  ![v227.toNat, 0]
def k0_dev118 (d0 : Dev nD) : Nat :=
  let c0_i32_1296 : BitVec 32 := 0#32
  let c4_i32_169 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v228 : BitVec 32 := Scalar.muli c4_i32_169 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_170 : BitVec 32 := 1#32
  let v229 : BitVec 32 := Scalar.addi v29 c1_i32_170
  let c4_i32_171 : BitVec 32 := 4#32
  let v230 : BitVec 32 := Scalar.remsi v229 c4_i32_171
  let v231 : BitVec 32 := Scalar.addi v228 v230
  let c1_i32_1295 : BitVec 32 := 1#32
  let v666 : BitVec 32 := Scalar.muli v231 c1_i32_1295
  let v667 : BitVec 32 := Scalar.addi c0_i32_1296 v666
  v667.toNat
def k0_dev119 (d0 : Dev nD) : Nat :=
  let c0_i32_1300 : BitVec 32 := 0#32
  let c4_i32_172 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v232 : BitVec 32 := Scalar.muli c4_i32_172 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_173 : BitVec 32 := 2#32
  let v233 : BitVec 32 := Scalar.addi v29 c2_i32_173
  let c4_i32_174 : BitVec 32 := 4#32
  let v234 : BitVec 32 := Scalar.remsi v233 c4_i32_174
  let v235 : BitVec 32 := Scalar.addi v232 v234
  let c1_i32_1299 : BitVec 32 := 1#32
  let v674 : BitVec 32 := Scalar.muli v235 c1_i32_1299
  let v675 : BitVec 32 := Scalar.addi c0_i32_1300 v674
  v675.toNat
def k0_dev120 (d0 : Dev nD) : Nat :=
  let c0_i32_1304 : BitVec 32 := 0#32
  let c4_i32_175 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v236 : BitVec 32 := Scalar.muli c4_i32_175 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_176 : BitVec 32 := 3#32
  let v237 : BitVec 32 := Scalar.addi v29 c3_i32_176
  let c4_i32_177 : BitVec 32 := 4#32
  let v238 : BitVec 32 := Scalar.remsi v237 c4_i32_177
  let v239 : BitVec 32 := Scalar.addi v236 v238
  let c1_i32_1303 : BitVec 32 := 1#32
  let v682 : BitVec 32 := Scalar.muli v239 c1_i32_1303
  let v683 : BitVec 32 := Scalar.addi c0_i32_1304 v682
  v683.toNat
def k0_dev121 (d0 : Dev nD) : Nat :=
  let c0_i32_1312 : BitVec 32 := 0#32
  let c4_i32_183 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v246 : BitVec 32 := Scalar.muli c4_i32_183 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_184 : BitVec 32 := 1#32
  let v247 : BitVec 32 := Scalar.addi v29 c1_i32_184
  let c4_i32_185 : BitVec 32 := 4#32
  let v248 : BitVec 32 := Scalar.remsi v247 c4_i32_185
  let v249 : BitVec 32 := Scalar.addi v246 v248
  let c1_i32_1311 : BitVec 32 := 1#32
  let v696 : BitVec 32 := Scalar.muli v249 c1_i32_1311
  let v697 : BitVec 32 := Scalar.addi c0_i32_1312 v696
  v697.toNat
def k0_dev122 (d0 : Dev nD) : Nat :=
  let c0_i32_1316 : BitVec 32 := 0#32
  let c4_i32_186 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v250 : BitVec 32 := Scalar.muli c4_i32_186 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_187 : BitVec 32 := 2#32
  let v251 : BitVec 32 := Scalar.addi v29 c2_i32_187
  let c4_i32_188 : BitVec 32 := 4#32
  let v252 : BitVec 32 := Scalar.remsi v251 c4_i32_188
  let v253 : BitVec 32 := Scalar.addi v250 v252
  let c1_i32_1315 : BitVec 32 := 1#32
  let v704 : BitVec 32 := Scalar.muli v253 c1_i32_1315
  let v705 : BitVec 32 := Scalar.addi c0_i32_1316 v704
  v705.toNat
def k0_dev123 (d0 : Dev nD) : Nat :=
  let c0_i32_1320 : BitVec 32 := 0#32
  let c4_i32_189 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v254 : BitVec 32 := Scalar.muli c4_i32_189 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_190 : BitVec 32 := 3#32
  let v255 : BitVec 32 := Scalar.addi v29 c3_i32_190
  let c4_i32_191 : BitVec 32 := 4#32
  let v256 : BitVec 32 := Scalar.remsi v255 c4_i32_191
  let v257 : BitVec 32 := Scalar.addi v254 v256
  let c1_i32_1319 : BitVec 32 := 1#32
  let v712 : BitVec 32 := Scalar.muli v257 c1_i32_1319
  let v713 : BitVec 32 := Scalar.addi c0_i32_1320 v712
  v713.toNat
def k0_dev124 (d0 : Dev nD) : Nat :=
  let c0_i32_1328 : BitVec 32 := 0#32
  let c4_i32_197 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v264 : BitVec 32 := Scalar.muli c4_i32_197 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_198 : BitVec 32 := 1#32
  let v265 : BitVec 32 := Scalar.addi v29 c1_i32_198
  let c4_i32_199 : BitVec 32 := 4#32
  let v266 : BitVec 32 := Scalar.remsi v265 c4_i32_199
  let v267 : BitVec 32 := Scalar.addi v264 v266
  let c1_i32_1327 : BitVec 32 := 1#32
  let v726 : BitVec 32 := Scalar.muli v267 c1_i32_1327
  let v727 : BitVec 32 := Scalar.addi c0_i32_1328 v726
  v727.toNat
def k0_dev125 (d0 : Dev nD) : Nat :=
  let c0_i32_1332 : BitVec 32 := 0#32
  let c4_i32_200 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v268 : BitVec 32 := Scalar.muli c4_i32_200 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_201 : BitVec 32 := 2#32
  let v269 : BitVec 32 := Scalar.addi v29 c2_i32_201
  let c4_i32_202 : BitVec 32 := 4#32
  let v270 : BitVec 32 := Scalar.remsi v269 c4_i32_202
  let v271 : BitVec 32 := Scalar.addi v268 v270
  let c1_i32_1331 : BitVec 32 := 1#32
  let v734 : BitVec 32 := Scalar.muli v271 c1_i32_1331
  let v735 : BitVec 32 := Scalar.addi c0_i32_1332 v734
  v735.toNat
def k0_dev126 (d0 : Dev nD) : Nat :=
  let c0_i32_1336 : BitVec 32 := 0#32
  let c4_i32_203 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v272 : BitVec 32 := Scalar.muli c4_i32_203 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_204 : BitVec 32 := 3#32
  let v273 : BitVec 32 := Scalar.addi v29 c3_i32_204
  let c4_i32_205 : BitVec 32 := 4#32
  let v274 : BitVec 32 := Scalar.remsi v273 c4_i32_205
  let v275 : BitVec 32 := Scalar.addi v272 v274
  let c1_i32_1335 : BitVec 32 := 1#32
  let v742 : BitVec 32 := Scalar.muli v275 c1_i32_1335
  let v743 : BitVec 32 := Scalar.addi c0_i32_1336 v742
  v743.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32 : BitVec 32 := 128#32
  let v30 : BitVec 32 := Scalar.muli v29 c128_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c32_i32 : BitVec 32 := 32#32
  let v31 : BitVec 32 := Scalar.muli v19 c32_i32
  let v32 : BitVec 32 := Scalar.addi v30 v31
  let c0_i32_919 : BitVec 32 := 0#32
  ![v32.toNat, 0]
def k0_off21 (d0 : Dev nD) (c1_i32_165 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c128_i32_164 : BitVec 32 := 128#32
  let v222 : BitVec 32 := Scalar.muli v29 c128_i32_164
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v223 : BitVec 32 := Scalar.subi v19 c1_i32_165
  let c4_i32_166 : BitVec 32 := 4#32
  let v224 : BitVec 32 := Scalar.addi v223 c4_i32_166
  let c4_i32_167 : BitVec 32 := 4#32
  let v225 : BitVec 32 := Scalar.remsi v224 c4_i32_167
  let c32_i32_168 : BitVec 32 := 32#32
  let v226 : BitVec 32 := Scalar.muli v225 c32_i32_168
  let v227 : BitVec 32 := Scalar.addi v222 v226
  let c0_i32_943 : BitVec 32 := 0#32
  ![v227.toNat, 0]
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16x512x512 : Shape := ⟨3, ![16, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S16x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Mesh.lean ====
/-
# The mesh and the channels of the all-reduce

Sixteen devices form a 4 × 4 torus: device `c` stands at column place `z = c / 4` and plane place `w = c % 4`.
The kernel makes thirty remote copies per device. Each is a CHANNEL here: twelve of the first phase (`p1 d j`, to the
plane peer `d + 1` places on), three of the second (`p2 j`, to the column peer `j + 1` places on), three of the third
(`p3 j`, same peers) and twelve of the fourth (`p4 d j`, same peers as `p1`).
-/
module

public import proofs.«01_k».proof.Proof.Gen.KernelIdeal
public import Idealize.ShloMosaic.Lib.Pipeline.Launch

@[expose] public section

noncomputable section

namespace Cert.AllReduce

open Cert.KernelIdeal Cert.KernelIdeal.Gen
open Idealize.ShloMosaic
open Idealize.ShloMosaic.TcCoe

/-! ## Peers -/

set_option backward.proofsInPublic true in
/-- The device `d + 1` places on in the same plane. -/
def pl (d : Fin 3) (c : Dev nD) : Dev nD := ⟨(4 * (c.val / 4) + (c.val % 4 + d.val + 1) % 4) % 16, Nat.mod_lt _ (by decide)⟩
set_option backward.proofsInPublic true in
/-- The device `j + 1` places on in the same column. -/
def col (j : Fin 3) (c : Dev nD) : Dev nD := ⟨(c.val + 4 * (j.val + 1)) % 16, Nat.mod_lt _ (by decide)⟩
set_option backward.proofsInPublic true in
/-- The device `j` places back in the same column (`j = 0` is the device itself). -/
def zb (j : Fin 4) (c : Dev nD) : Dev nD := ⟨(c.val + 16 - 4 * j.val) % 16, Nat.mod_lt _ (by decide)⟩

set_option backward.proofsInPublic true in
/-- The slab (a block of 32 rows of the 512) that device `c` reduces and normalises: plane place major. -/
def slab (c : Dev nD) : Fin 16 := ⟨(4 * (c.val % 4) + c.val / 4) % 16, Nat.mod_lt _ (by decide)⟩
set_option backward.proofsInPublic true in
/-- The device whose slab is `r`. -/
def owner (r : Fin 16) : Dev nD := ⟨(4 * (r.val % 4) + r.val / 4) % 16, Nat.mod_lt _ (by decide)⟩
set_option backward.proofsInPublic true in
/-- The slab of the device `j` places on in `c`'s column. -/
def slabF (j : Fin 4) (c : Dev nD) : Fin 16 := ⟨(4 * (c.val % 4) + (c.val / 4 + j.val) % 4) % 16, Nat.mod_lt _ (by decide)⟩

theorem owner_slab (c : Dev nD) : owner (slab c) = c := by revert c; decide
theorem slab_owner (r : Fin 16) : slab (owner r) = r := by revert r; decide

/-- Slabs and devices correspond. -/
def slabE : Dev nD ≃ Fin 16 := ⟨slab, owner, owner_slab, slab_owner⟩

/-! ## Channels -/

abbrev Ch : Type := (Fin 3 × Fin 4) ⊕ (Fin 3 ⊕ (Fin 3 ⊕ (Fin 3 × Fin 4)))
@[match_pattern] abbrev p1 (d : Fin 3) (j : Fin 4) : Ch := .inl (d, j)
@[match_pattern] abbrev p2 (j : Fin 3) : Ch := .inr (.inl j)
@[match_pattern] abbrev p3 (j : Fin 3) : Ch := .inr (.inr (.inl j))
@[match_pattern] abbrev p4 (d : Fin 3) (j : Fin 4) : Ch := .inr (.inr (.inr (d, j)))

/-- The device a channel of `c` sends to. -/
def peer : Ch → Dev nD → Dev nD
  | p1 d _, c => pl d c
  | p2 j, c => col j c
  | p3 j, c => col j c
  | p4 d _, c => pl d c

/-- The device whose channel sends to `c`. -/
def orig : Ch → Dev nD → Dev nD
  | p1 d _, c => pl d.rev c
  | p2 j, c => col j.rev c
  | p3 j, c => col j.rev c
  | p4 d _, c => pl d.rev c

theorem pl_rev (d : Fin 3) (c : Dev nD) : pl d (pl d.rev c) = c := by revert d c; decide
theorem pl_rev' (d : Fin 3) (c : Dev nD) : pl d.rev (pl d c) = c := by revert d c; decide
theorem col_rev (d : Fin 3) (c : Dev nD) : col d (col d.rev c) = c := by revert d c; decide
theorem col_rev' (d : Fin 3) (c : Dev nD) : col d.rev (col d c) = c := by revert d c; decide

theorem peer_orig (k : Ch) (c : Dev nD) : peer k (orig k c) = c := by
  rcases k with ⟨d, j⟩ | j | j | ⟨d, j⟩
  · exact pl_rev d c
  · exact col_rev j c
  · exact col_rev j c
  · exact pl_rev d c
theorem orig_peer (k : Ch) (c : Dev nD) : orig k (peer k c) = c := by
  rcases k with ⟨d, j⟩ | j | j | ⟨d, j⟩
  · exact pl_rev' d c
  · exact col_rev' j c
  · exact col_rev' j c
  · exact pl_rev' d c

/-- A channel's senders and receivers correspond. -/
def peerE (k : Ch) : Dev nD ≃ Dev nD := ⟨peer k, orig k, orig_peer k, peer_orig k⟩

/-- The six neighbours whose barrier semaphore a device signals: `(false, d)` in the plane, `(true, j)` in the column. -/
abbrev Nb : Type := Bool × Fin 3
def nb : Nb → Dev nD → Dev nD
  | (false, d), c => pl d c
  | (true, j), c => col j c
/-- The same neighbourhood seen from the other side. -/
def nrev (b : Nb) : Nb := (b.1, b.2.rev)
theorem nrev_nrev (b : Nb) : nrev (nrev b) = b := by revert b; decide
theorem nb_nrev (b : Nb) (c : Dev nD) : nb (nrev b) (nb b c) = c := by revert b c; decide
/-- A neighbour relation as a permutation of the devices. -/
def nbE (b : Nb) : Dev nD ≃ Dev nD :=
  ⟨nb b, nb (nrev b), nb_nrev b, fun c => by have := nb_nrev (nrev b) c; rwa [nrev_nrev] at this⟩
def nrevE : Nb ≃ Nb := ⟨nrev, nrev, nrev_nrev, nrev_nrev⟩

/-! ## Semaphores and cells -/

/-- The send semaphore of a channel, as the launch numbers them. -/
def sIx : Ch → ℕ
  | p1 d j => 4 + 4 * d.val + j.val
  | p2 j => 28 + j.val
  | p3 j => 34 + j.val
  | p4 d j => 40 + 4 * d.val + j.val
/-- The receive semaphore of a channel. -/
def rIx : Ch → ℕ
  | p1 d j => 16 + 4 * d.val + j.val
  | p2 j => 31 + j.val
  | p3 j => 37 + j.val
  | p4 d j => 52 + 4 * d.val + j.val

theorem sIx_lt (k : Ch) : sIx k < 64 := by revert k; decide
theorem rIx_lt (k : Ch) : rIx k < 64 := by revert k; decide
set_option backward.proofsInPublic true in
def sS (k : Ch) : DmaSem sig := ⟨sIx k, sIx_lt k⟩
set_option backward.proofsInPublic true in
def rS (k : Ch) : DmaSem sig := ⟨rIx k, rIx_lt k⟩
/-- The runtime's barrier semaphore. -/
abbrev barS : Sem sig := (SemArray.scalar (sig.barrier 0 rfl) : Sems sig S_).sem

/-- The kinds of cell the protocol uses: the barrier, a send cell per channel, a receive cell per channel. -/
abbrev Cx : Type := Unit ⊕ (Ch ⊕ Ch)
def csem : Cx → SemLoc sig
  | .inl _ => .reg barS
  | .inr (.inl k) => .dma (sS k)
  | .inr (.inr k) => .dma (rS k)

abbrev bCell (c : Dev nD) : GSem nD τ sig := ((c : Thread nD τ), .reg barS)
abbrev sCell (k : Ch) (c : Dev nD) : GSem nD τ sig := ((c : Thread nD τ), .dma (sS k))
abbrev rCell (k : Ch) (c : Dev nD) : GSem nD τ sig := ((c : Thread nD τ), .dma (rS k))
def cell (x : Cx) (c : Dev nD) : GSem nD τ sig := ((c : Thread nD τ), csem x)

/-- Numbers for the cell kinds, all different. -/
def cnum : Cx → ℕ
  | .inl _ => 0
  | .inr (.inl k) => sIx k
  | .inr (.inr k) => rIx k
theorem cnum_pos (k : Ch ⊕ Ch) : cnum (.inr k) ≠ 0 := by revert k; decide
theorem sr_inj : Function.Injective fun a : Ch ⊕ Ch => cnum (.inr a) := by decide +kernel
theorem csem_inj {x y : Cx} (h : csem x = csem y) : x = y := by
  rcases x with _ | x <;> rcases y with _ | y
  · rfl
  · rcases y with y | y <;> cases h
  · rcases x with x | x <;> cases h
  · have e : cnum (.inr x) = cnum (.inr y) := by
      rcases x with x | x <;> rcases y with y | y <;> exact congrArg Fin.val (SemLoc.dma.inj h)
    rw [sr_inj e]
theorem csem_own_ge (k : Ch ⊕ Ch) : 4 ≤ cnum (.inr k) := by revert k; decide

/-- The kind of cell a semaphore is, if the protocol uses it. -/
def kindOf (s : SemLoc sig) : Option Cx := if h : ∃ x, csem x = s then some h.choose else none
theorem kindOf_csem (x : Cx) : kindOf (csem x) = some x := by
  have h : ∃ y, csem y = csem x := ⟨x, rfl⟩
  unfold kindOf; rw [dif_pos h, csem_inj h.choose_spec]
theorem kindOf_some {s : SemLoc sig} {x : Cx} (h : kindOf s = some x) : csem x = s := by
  unfold kindOf at h
  split at h
  · rename_i hx; cases h; exact hx.choose_spec
  · cases h
theorem kindOf_stage (q : DmaSem sig) (hq : q.val < 4) : kindOf (.dma q) = none := by
  unfold kindOf; rw [dif_neg]
  rintro ⟨x, hx⟩
  rcases x with _ | x
  · cases hx
  · have := csem_own_ge x
    have e : cnum (.inr x) = q.val := by rcases x with x | x <;> exact congrArg Fin.val (SemLoc.dma.inj hx)
    omega

/-! ## Levels: every wait is below what the waiter still owes -/

def chLev : Ch → ℕ
  | p1 _ _ => 2
  | p2 _ => 3
  | p3 _ => 4
  | p4 _ _ => 5
def cxLev : Cx → ℕ
  | .inl _ => 1
  | .inr (.inl _) => 0
  | .inr (.inr k) => chLev k
def lv (g : GSem nD τ sig) (_ : Unit) : ℕ := match kindOf g.2 with | some x => cxLev x | none => 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_cell (x : Cx) (c : Dev nD) : lv (cell x c) () = cxLev x := by
  unfold lv cell; dsimp only; rw [kindOf_csem]
theorem lv_bar (c : Dev nD) : lv (bCell c) () = 1 := lv_cell (.inl ()) c
theorem lv_send (k : Ch) (c : Dev nD) : lv (sCell k c) () = 0 := lv_cell (.inr (.inl k)) c
theorem lv_recv (k : Ch) (c : Dev nD) : lv (rCell k c) () = chLev k := lv_cell (.inr (.inr k)) c
theorem lv_stage (q : DmaSem sig) (hq : q.val < 4) (c : Dev nD) : lv ((c : Thread nD τ), .dma q) () = 0 := by
  unfold lv; dsimp only; rw [kindOf_stage q hq]

end Cert.AllReduce
-- ==== Proof.Views.lean ====
/-
# Slabs of the staged blocks and of the scratch buffers

The kernel works on blocks of 32 rows: sixteen of the partial, sixteen of the result, twelve of the first landing
buffer, three each of the sum buffer and of the second landing buffer. Each is a 32 × 512 memref here; a whole buffer
is its blocks held side by side.
-/
module

public import proofs.«01_k».proof.Proof.Mesh
public import Idealize.ShloMosaic.Lib.Pipeline.Kit
public import Idealize.ShloMosaic.Lib.Memref
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The rectangles and the memrefs -/

abbrev xM : Memref sig .tc .vmem S1x512x512 .f32 := Memref.whole cc0_stg0_0
abbrev resM : Memref sig .tc .vmem S512x512 .f32 := Memref.whole cc0_stg1_0
abbrev gamM : Memref sig .tc .vmem S512 .f32 := Memref.whole cc0_stg2_0
abbrev outM : Memref sig .tc .vmem S512x512 .f32 := Memref.whole cc0_stg3_0
abbrev b1W : Memref sig .tc .vmem S3x4x32x512 .f32 := Memref.whole cc0_scratch0
abbrev zW : Memref sig .tc .vmem S3x32x512 .f32 := Memref.whole cc0_scratch1
abbrev b2W : Memref sig .tc .vmem S3x32x512 .f32 := Memref.whole cc0_scratch2

theorem inb_x (r : Fin 16) : ∀ a, (![0, 32 * r.val, 0] : Fin 3 → ℕ) a + S1x32x512.size a ≤ S1x512x512.size a := by
  revert r; decide
theorem inb_o (r : Fin 16) : ∀ a, (![32 * r.val, 0] : Fin 2 → ℕ) a + S32x512.size a ≤ S512x512.size a := by
  revert r; decide
theorem inb_b1 (d : Fin 3) (j : Fin 4) : ∀ a, (![d.val, j.val, 0, 0] : Fin 4 → ℕ) a + S1x1x32x512.size a ≤ S3x4x32x512.size a := by
  revert d j; decide
theorem inb_z (j : Fin 3) : ∀ a, (![j.val, 0, 0] : Fin 3 → ℕ) a + S1x32x512.size a ≤ S3x32x512.size a := by
  revert j; decide

abbrev xR (r : Fin 16) : Rect S1x512x512 := Rect.unit (s := S1x512x512) ![0, 32 * r.val, 0] S1x32x512.size (inb_x r)
abbrev oR (r : Fin 16) : Rect S512x512 := Rect.unit (s := S512x512) ![32 * r.val, 0] S32x512.size (inb_o r)
abbrev b1R (t : Fin 3 × Fin 4) : Rect S3x4x32x512 := Rect.unit (s := S3x4x32x512) ![t.1.val, t.2.val, 0, 0] S1x1x32x512.size (inb_b1 t.1 t.2)
abbrev zR (j : Fin 3) : Rect S3x32x512 := Rect.unit (s := S3x32x512) ![j.val, 0, 0] S1x32x512.size (inb_z j)

abbrev xS (r : Fin 16) : Memref sig .tc .vmem S32x512 .f32 := (xM.slice (xR r) (fun _ => rfl)).squeeze S32x512 squeezes_S1x32x512_S32x512
abbrev oS (r : Fin 16) : Memref sig .tc .vmem S32x512 .f32 := outM.slice (oR r) (fun _ => rfl)
abbrev b1S (d : Fin 3) (j : Fin 4) : Memref sig .tc .vmem S32x512 .f32 :=
  (b1W.slice (b1R (d, j)) (fun _ => rfl)).squeeze S32x512 squeezes_S1x1x32x512_S32x512
abbrev zS (j : Fin 3) : Memref sig .tc .vmem S32x512 .f32 := (zW.slice (zR j) (fun _ => rfl)).squeeze S32x512 squeezes_S1x32x512_S32x512
abbrev b2S (j : Fin 3) : Memref sig .tc .vmem S32x512 .f32 := (b2W.slice (zR j) (fun _ => rfl)).squeeze S32x512 squeezes_S1x32x512_S32x512

/-- What a channel of `c` sends from, on `c`. -/
def srcM : Ch → Dev nD → Memref sig .tc .vmem S32x512 .f32
  | p1 d j, c => xS (slabF j (pl d c))
  | p2 j, _ => zS j
  | p3 _, c => oS (slab c)
  | p4 _ j, c => oS (slab (zb j c))
/-- Where a channel of `c` lands, on the peer. -/
def dstM : Ch → Dev nD → Memref sig .tc .vmem S32x512 .f32
  | p1 d j, _ => b1S d j
  | p2 j, _ => b2S j
  | p3 _, c => oS (slab c)
  | p4 _ j, c => oS (slab (zb j c))

/-- The credit one block's copy carries. -/
abbrev N : ℕ := (oS 0).view.dmaCredit
theorem N_pos : 0 < N := View.dmaCredit_pos _ (by decide)
theorem credit_src (k : Ch) (c : Dev nD) : (srcM k c).view.dmaCredit = N := by
  rcases k with ⟨d, j⟩ | j | j | ⟨d, j⟩ <;> rfl
theorem credit_dst (k : Ch) (c : Dev nD) : (dstM k c).view.dmaCredit = N := by
  rcases k with ⟨d, j⟩ | j | j | ⟨d, j⟩ <;> rfl

/-! ## Blocks cover their buffers -/

theorem mem_unit {s : Shape} {off size : Fin s.rank → ℕ} {inb : ∀ a, off a + size a ≤ s.size a} (x : s.Idx) :
    x ∈ (Rect.unit off size inb).set ↔ ∀ a, off a ≤ (x a).val ∧ (x a).val < off a + size a := by
  rw [← Rect.map_emb_univ, Finset.mem_map]
  constructor
  · rintro ⟨j, -, rfl⟩ a
    have := (j a).isLt
    have e : (((Rect.unit off size inb).emb j) a).val = off a + 1 * (j a).val := rfl
    rw [e, Nat.one_mul]
    exact ⟨Nat.le_add_right _ _, Nat.add_lt_add_left this _⟩
  · intro h
    refine ⟨fun a => ⟨(x a).val - off a, by have := h a; show _ < size a; omega⟩, Finset.mem_univ _, ?_⟩
    funext a
    apply Fin.ext
    show off a + 1 * ((x a).val - off a) = (x a).val
    have := h a; omega

theorem xR_disj (r r' : Fin 16) (h : r ≠ r') : Disjoint (xR r).set (xR r').set := by
  rw [Finset.disjoint_left]; intro x hx hx'
  have h1 := (mem_unit x).mp hx 1
  have h2 := (mem_unit x).mp hx' 1
  apply h; apply Fin.ext
  simp at h1 h2; omega
theorem xR_cov : (Finset.univ : Finset (Fin 16)).biUnion (fun r => (xR r).set) = Finset.univ := by
  refine Finset.eq_univ_iff_forall.mpr fun x => ?_
  have h0 : (x 0).val < 1 := (x 0).isLt
  have h1 : (x 1).val < 512 := (x 1).isLt
  have h2 : (x 2).val < 512 := (x 2).isLt
  refine Finset.mem_biUnion.mpr ⟨⟨(x 1).val / 32, by omega⟩, Finset.mem_univ _, (mem_unit x).mpr ?_⟩
  rw [Fin.forall_fin_succ, Fin.forall_fin_succ, Fin.forall_fin_succ]
  simp; omega
theorem oR_disj (r r' : Fin 16) (h : r ≠ r') : Disjoint (oR r).set (oR r').set := by
  rw [Finset.disjoint_left]; intro x hx hx'
  have h1 := (mem_unit x).mp hx 0
  have h2 := (mem_unit x).mp hx' 0
  apply h; apply Fin.ext
  simp at h1 h2; omega
theorem oR_cov : (Finset.univ : Finset (Fin 16)).biUnion (fun r => (oR r).set) = Finset.univ := by
  refine Finset.eq_univ_iff_forall.mpr fun x => ?_
  have h1 : (x 0).val < 512 := (x 0).isLt
  have h2 : (x 1).val < 512 := (x 1).isLt
  refine Finset.mem_biUnion.mpr ⟨⟨(x 0).val / 32, by omega⟩, Finset.mem_univ _, (mem_unit x).mpr ?_⟩
  rw [Fin.forall_fin_succ, Fin.forall_fin_succ]
  simp; omega
theorem b1R_disj (t t' : Fin 3 × Fin 4) (h : t ≠ t') : Disjoint (b1R t).set (b1R t').set := by
  rw [Finset.disjoint_left]; intro x hx hx'
  have h1 := (mem_unit x).mp hx 0
  have h2 := (mem_unit x).mp hx' 0
  have h3 := (mem_unit x).mp hx 1
  have h4 := (mem_unit x).mp hx' 1
  apply h; apply Prod.ext <;> apply Fin.ext <;> simp at h1 h2 h3 h4 <;> omega
theorem b1R_cov : (Finset.univ : Finset (Fin 3 × Fin 4)).biUnion (fun t => (b1R t).set) = Finset.univ := by
  refine Finset.eq_univ_iff_forall.mpr fun x => ?_
  have h0 : (x 0).val < 3 := (x 0).isLt
  have h1 : (x 1).val < 4 := (x 1).isLt
  have h2 : (x 2).val < 32 := (x 2).isLt
  have h3 : (x 3).val < 512 := (x 3).isLt
  refine Finset.mem_biUnion.mpr ⟨(⟨(x 0).val, h0⟩, ⟨(x 1).val, h1⟩), Finset.mem_univ _, (mem_unit x).mpr ?_⟩
  rw [Fin.forall_fin_succ, Fin.forall_fin_succ, Fin.forall_fin_succ, Fin.forall_fin_succ]
  simp; omega
theorem zR_disj (t t' : Fin 3) (h : t ≠ t') : Disjoint (zR t).set (zR t').set := by
  rw [Finset.disjoint_left]; intro x hx hx'
  have h1 := (mem_unit x).mp hx 0
  have h2 := (mem_unit x).mp hx' 0
  apply h; apply Fin.ext; simp at h1 h2; omega
theorem zR_cov : (Finset.univ : Finset (Fin 3)).biUnion (fun t => (zR t).set) = Finset.univ := by
  refine Finset.eq_univ_iff_forall.mpr fun x => ?_
  have h0 : (x 0).val < 3 := (x 0).isLt
  have h2 : (x 1).val < 32 := (x 1).isLt
  have h3 : (x 2).val < 512 := (x 2).isLt
  refine Finset.mem_biUnion.mpr ⟨⟨(x 0).val, h0⟩, Finset.mem_univ _, (mem_unit x).mpr ?_⟩
  rw [Fin.forall_fin_succ, Fin.forall_fin_succ, Fin.forall_fin_succ]
  simp; omega

/-! ## Whole buffers as blocks -/

section Own

variable {F : FTy → Type} [FloatOps F]
variable {Ix : Type} [DecidableEq Ix] {Name : Type} [DecidableEq Name] {U : Type} [URA U] {Lvl : Type}

local notation "𝕄" => MT nD τ sig Ix (Elt F) Name U Lvl

omit [FloatOps F] in
theorem owns_squeeze_out (c : Dev nD) {s s' : Shape} (m : Memref sig .tc .vmem s .f32) (h : s.Squeezes s') (q : PosShare TreeShare)
    (X : s.Idx → Elt F .f32) :
    (owns (c : Thread nD τ) (m.squeeze s' h) q (fun i => X (Shape.reshapeEquiv h.numel_eq i)) : sProp 𝕄) ⊢ owns (c : Thread nD τ) m q X := by
  unfold owns
  iintro ⟨%f, %hf, H⟩
  iexists f
  isplitr
  · ipureintro
    funext x
    have := congrFun hf ((Shape.reshapeEquiv h.numel_eq).symm x)
    simpa [View.read_apply] using this
  · rw [show (m.squeeze s' h).view.set = m.view.set from View.set_reshape _ _]
    iexact H
omit [FloatOps F] in
theorem owns_squeeze_in (c : Dev nD) {s s' : Shape} (m : Memref sig .tc .vmem s .f32) (h : s.Squeezes s') (q : PosShare TreeShare)
    (X : s.Idx → Elt F .f32) :
    (owns (c : Thread nD τ) m q X : sProp 𝕄) ⊢ owns (c : Thread nD τ) (m.squeeze s' h) q (fun i => X (Shape.reshapeEquiv h.numel_eq i)) := by
  unfold owns
  iintro ⟨%f, %hf, H⟩
  iexists f
  isplitr
  · ipureintro
    funext x
    have := congrFun hf (Shape.reshapeEquiv h.numel_eq x)
    simpa [View.read_apply] using this
  · rw [show (m.squeeze s' h).view.set = m.view.set from View.set_reshape _ _]
    iexact H

omit [FloatOps F] in
/-- A memref and its squeezed form are owned alike. -/
theorem owns_squeeze (c : Dev nD) {s s' : Shape} (m : Memref sig .tc .vmem s .f32) (h : s.Squeezes s') (q : PosShare TreeShare)
    (X : s.Idx → Elt F .f32) :
    (owns (c : Thread nD τ) (m.squeeze s' h) q (fun i => X (Shape.reshapeEquiv h.numel_eq i)) : sProp 𝕄) = owns (c : Thread nD τ) m q X :=
  BI.equiv_iff.mp ⟨owns_squeeze_out c m h q X, owns_squeeze_in c m h q X⟩

variable (F) in
/-- A block of 32 rows. -/
abbrev Blk : Type := S32x512.Idx → Elt F .f32

/-- The blocks of the four kinds of buffer, read off whole contents. -/
def xB (X : S1x512x512.Idx → Elt F .f32) (r : Fin 16) : Blk F := fun i => X ((xR r).emb (Shape.reshapeEquiv squeezes_S1x32x512_S32x512.numel_eq i))
def oB (X : S512x512.Idx → Elt F .f32) (r : Fin 16) : Blk F := fun i => X ((oR r).emb i)
def b1B (X : S3x4x32x512.Idx → Elt F .f32) (t : Fin 3 × Fin 4) : Blk F :=
  fun i => X ((b1R t).emb (Shape.reshapeEquiv squeezes_S1x1x32x512_S32x512.numel_eq i))
def zB (X : S3x32x512.Idx → Elt F .f32) (j : Fin 3) : Blk F := fun i => X ((zR j).emb (Shape.reshapeEquiv squeezes_S1x32x512_S32x512.numel_eq i))

omit [FloatOps F] in
theorem x_split (c : Dev nD) (q : PosShare TreeShare) (X : S1x512x512.Idx → Elt F .f32) :
    (owns (c : Thread nD τ) xM q X : sProp 𝕄) ⊢ bigSep Finset.univ fun r => owns (c : Thread nD τ) (xS r) q (xB X r) := by
  refine (owns_rects (c : Thread nD τ) xM q xR (fun _ _ => rfl) xR_disj xR_cov X).trans (bigSep_mono fun r _ => ?_)
  exact owns_squeeze_in c _ squeezes_S1x32x512_S32x512 q _
theorem x_join (c : Dev nD) (q : PosShare TreeShare) (X : S1x512x512.Idx → Elt F .f32) :
    bigSep Finset.univ (fun r => owns (c : Thread nD τ) (xS r) q (xB X r)) ⊢ (owns (c : Thread nD τ) xM q X : sProp 𝕄) := by
  have h := owns_of_rects (Ix := Ix) (Name := Name) (U := U) (Lvl := Lvl) (c : Thread nD τ) xM q xR (fun _ _ => rfl) xR_disj xR_cov X
  have hm := bigSep_mono (s := Finset.univ) (Φ := fun r => owns (Ix := Ix) (Name := Name) (U := U) (Lvl := Lvl) (c : Thread nD τ) (xS r) q (xB X r))
    (Ψ := fun r => owns (c : Thread nD τ) (xM.slice (xR r) (fun _ => rfl)) q fun i => X ((xR r).emb i))
    fun r _ => owns_squeeze_out c (xM.slice (xR r) (fun _ => rfl)) squeezes_S1x32x512_S32x512 q fun i => X ((xR r).emb i)
  exact BI.Entails.trans hm h
omit [FloatOps F] in
theorem o_split (c : Dev nD) (q : PosShare TreeShare) (X : S512x512.Idx → Elt F .f32) :
    (owns (c : Thread nD τ) outM q X : sProp 𝕄) ⊢ bigSep Finset.univ fun r => owns (c : Thread nD τ) (oS r) q (oB X r) :=
  owns_rects (c : Thread nD τ) outM q oR (fun _ _ => rfl) oR_disj oR_cov X
theorem o_join (c : Dev nD) (q : PosShare TreeShare) (X : S512x512.Idx → Elt F .f32) :
    bigSep Finset.univ (fun r => owns (c : Thread nD τ) (oS r) q (oB X r)) ⊢ (owns (c : Thread nD τ) outM q X : sProp 𝕄) :=
  owns_of_rects (c : Thread nD τ) outM q oR (fun _ _ => rfl) oR_disj oR_cov X
omit [FloatOps F] in
theorem b1_split (c : Dev nD) (q : PosShare TreeShare) (X : S3x4x32x512.Idx → Elt F .f32) :
    (owns (c : Thread nD τ) b1W q X : sProp 𝕄) ⊢ bigSep Finset.univ fun t => owns (c : Thread nD τ) (b1S t.1 t.2) q (b1B X t) := by
  refine (owns_rects (c : Thread nD τ) b1W q b1R (fun _ _ => rfl) b1R_disj b1R_cov X).trans (bigSep_mono fun r _ => ?_)
  exact owns_squeeze_in c _ squeezes_S1x1x32x512_S32x512 q _
omit [FloatOps F] in
theorem z_split (c : Dev nD) (q : PosShare TreeShare) (X : S3x32x512.Idx → Elt F .f32) :
    (owns (c : Thread nD τ) zW q X : sProp 𝕄) ⊢ bigSep Finset.univ fun t => owns (c : Thread nD τ) (zS t) q (zB X t) := by
  refine (owns_rects (c : Thread nD τ) zW q zR (fun _ _ => rfl) zR_disj zR_cov X).trans (bigSep_mono fun r _ => ?_)
  exact owns_squeeze_in c _ squeezes_S1x32x512_S32x512 q _
omit [FloatOps F] in
theorem b2_split (c : Dev nD) (q : PosShare TreeShare) (X : S3x32x512.Idx → Elt F .f32) :
    (owns (c : Thread nD τ) b2W q X : sProp 𝕄) ⊢ bigSep Finset.univ fun t => owns (c : Thread nD τ) (b2S t) q (zB X t) := by
  refine (owns_rects (c : Thread nD τ) b2W q zR (fun _ _ => rfl) zR_disj zR_cov X).trans (bigSep_mono fun r _ => ?_)
  exact owns_squeeze_in c _ squeezes_S1x32x512_S32x512 q _

/-! Joining back: whatever the blocks hold, some whole contents hold them. -/

omit [FloatOps F] in
/-- Values on the members of a disjoint covering family of rectangles come from one function. -/
theorem exists_glue {α : Type} {sh : Shape} {T : Type} [Fintype T] (r : T → Rect sh)
    (hd : ∀ t t', t ≠ t' → Disjoint (r t).set (r t').set)
    (hcov : (Finset.univ : Finset T).biUnion (fun t => (r t).set) = Finset.univ) (v : (t : T) → (r t).shape.Idx → α) :
    ∃ X : sh.Idx → α, ∀ t, (fun i => X ((r t).emb i)) = v t := by
  classical
  have h (x : sh.Idx) : ∃ t : T, ∃ i : (r t).shape.Idx, (r t).emb i = x := by
    obtain ⟨t, -, hx⟩ := Finset.mem_biUnion.mp (hcov.symm ▸ Finset.mem_univ x)
    rw [← Rect.map_emb_univ, Finset.mem_map] at hx
    obtain ⟨i, -, hi⟩ := hx
    exact ⟨t, i, hi⟩
  refine ⟨fun x => v (h x).choose (h x).choose_spec.choose, fun t => ?_⟩
  funext i
  have key : ∀ (t' : T) (i' : (r t').shape.Idx), (r t').emb i' = (r t).emb i → v t' i' = v t i := by
    intro t' i' e
    have ht : t' = t := by
      by_contra hne
      refine Finset.disjoint_left.mp (hd t' t hne) (show (r t).emb i ∈ _ from ?_) ?_
      · rw [← Rect.map_emb_univ, ← e]; exact Finset.mem_map_of_mem _ (Finset.mem_univ _)
      · rw [← Rect.map_emb_univ]; exact Finset.mem_map_of_mem _ (Finset.mem_univ _)
    subst ht
    rw [(r t').emb.injective e]
  exact key _ _ (h ((r t).emb i)).choose_spec.choose_spec

omit [FloatOps F] in
theorem exists_oJoin (v : Fin 16 → Blk F) : ∃ X : S512x512.Idx → Elt F .f32, ∀ r, oB X r = v r :=
  exists_glue oR oR_disj oR_cov v

/-- Whole contents from the contents of sixteen blocks of the result. -/
def oJoin (v : Fin 16 → Blk F) : S512x512.Idx → Elt F .f32 := (exists_oJoin v).choose
omit [FloatOps F] in
theorem oB_oJoin (v : Fin 16 → Blk F) (r : Fin 16) : oB (oJoin v) r = v r := (exists_oJoin v).choose_spec r
omit [FloatOps F] in
/-- Whole contents are determined by the sixteen blocks. -/
theorem oB_ext {X Y : S512x512.Idx → Elt F .f32} (h : ∀ r, oB X r = oB Y r) : X = Y := by
  funext x
  obtain ⟨r, -, hx⟩ := Finset.mem_biUnion.mp (oR_cov.symm ▸ Finset.mem_univ x)
  rw [← Rect.map_emb_univ, Finset.mem_map] at hx
  obtain ⟨i, -, rfl⟩ := hx
  exact congrFun (h r) i

theorem b1_join (c : Dev nD) (v : Fin 3 × Fin 4 → Blk F) :
    bigSep Finset.univ (fun t => owns (c : Thread nD τ) (b1S t.1 t.2) fullShare (v t)) ⊢ (iprop(∃ X, owns (c : Thread nD τ) b1W fullShare X) : sProp 𝕄) := by
  obtain ⟨X, hX⟩ := exists_glue (fun t => b1R t) b1R_disj b1R_cov
    fun t i => v t ((Shape.reshapeEquiv squeezes_S1x1x32x512_S32x512.numel_eq).symm i)
  have h := owns_of_rects (Ix := Ix) (Name := Name) (U := U) (Lvl := Lvl) (c : Thread nD τ) b1W fullShare b1R (fun _ _ => rfl) b1R_disj b1R_cov X
  have hm := bigSep_mono (s := Finset.univ) (Φ := fun t => owns (Ix := Ix) (Name := Name) (U := U) (Lvl := Lvl) (c : Thread nD τ) (b1S t.1 t.2) fullShare (v t))
    (Ψ := fun t => owns (c : Thread nD τ) (b1W.slice (b1R t) (fun _ => rfl)) fullShare fun i => X ((b1R t).emb i)) fun t _ => by
      rw [hX t, ← owns_squeeze c _ squeezes_S1x1x32x512_S32x512]
      simp only [Equiv.symm_apply_apply]
      exact BI.Entails.refl _
  refine BIBase.Entails.trans hm (BIBase.Entails.trans h ?_)
  iintro H
  iexists X
  iexact H

theorem three_join (W : Memref sig .tc .vmem S3x32x512 .f32) (c : Dev nD) (v : Fin 3 → Blk F) :
    bigSep Finset.univ (fun t => owns (c : Thread nD τ) ((W.slice (zR t) (fun _ => rfl)).squeeze S32x512 squeezes_S1x32x512_S32x512) fullShare (v t))
      ⊢ (iprop(∃ X, owns (c : Thread nD τ) W fullShare X) : sProp 𝕄) := by
  obtain ⟨X, hX⟩ := exists_glue zR zR_disj zR_cov
    fun t i => v t ((Shape.reshapeEquiv squeezes_S1x32x512_S32x512.numel_eq).symm i)
  have h := owns_of_rects (Ix := Ix) (Name := Name) (U := U) (Lvl := Lvl) (c : Thread nD τ) W fullShare zR (fun _ _ => rfl) zR_disj zR_cov X
  have hm := bigSep_mono (s := Finset.univ) (Φ := fun t => owns (Ix := Ix) (Name := Name) (U := U) (Lvl := Lvl) (c : Thread nD τ)
      ((W.slice (zR t) (fun _ => rfl)).squeeze S32x512 squeezes_S1x32x512_S32x512) fullShare (v t))
    (Ψ := fun t => owns (c : Thread nD τ) (W.slice (zR t) (fun _ => rfl)) fullShare fun i => X ((zR t).emb i)) fun t _ => by
      rw [hX t, ← owns_squeeze c _ squeezes_S1x32x512_S32x512]
      simp only [Equiv.symm_apply_apply]
      exact BI.Entails.refl _
  refine BIBase.Entails.trans hm (BIBase.Entails.trans h ?_)
  iintro H
  iexists X
  iexact H

/-! ## Loads and stores of a block

A load of a block's box through the whole buffer reads what the block holds, at the box's own shape (`unsq`). -/

/-- A block at the shape of the box it was squeezed from. -/
def unsq {s : Shape} (h : s.Squeezes S32x512) (v : Blk F) : s.Idx → Elt F .f32 := fun i => v ((Shape.reshapeEquiv h.numel_eq).symm i)

omit [FloatOps F] in
theorem shapeCast_unsq {s : Shape} (h : s.Squeezes S32x512) (h' : s.ShapeCasts S32x512) (v : Blk F) : shapeCast S32x512 (unsq h v) h' = v := by
  funext i
  exact congrArg v ((Shape.reshapeEquiv h.numel_eq).symm_apply_apply i)

end Own

section Access

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

variable {Λ : Labels} {defs : Defs nD τ sig (Elt F) Λ} (𝒱 : Variants) (c : Dev nD)

/-- A load of the box of a block that is held. -/
theorem wp_load_blk {s : Shape} (m : Memref sig .tc .vmem s .f32) (r : Rect s) (hr : ∀ a, r.stride a = 1) (h : r.shape.Squeezes S32x512)
    {q : PosShare TreeShare} {v : Blk F} {hl : m.view.LoadsAt r.toLoadRect} {α : Type} {Q : α → sProp 𝕄}
    {k : (r.shape.Idx → Elt F .f32) → Prog (TpuEff nD τ sig (Elt F) Λ .tc) α} :
    (owns (c : Thread nD τ) ((m.slice r hr).squeeze S32x512 h) q v : sProp 𝕄)
      ⊢ iprop((owns (c : Thread nD τ) ((m.slice r hr).squeeze S32x512 h) q v -∗ wp frame (wpE defs 𝒱 (c : Thread nD τ) none) Set.univ (k (unsq h v)) Q)
          -∗ wp frame (wpE defs 𝒱 (c : Thread nD τ) none) Set.univ (.op (.load m r.toLoadRect hl) k) Q) := by
  unfold owns
  iintro ⟨%f, %hf, H⟩ Hk
  have hset : ((m.slice r hr).squeeze S32x512 h).view.set = (m.view.slice r).set := View.set_reshape _ _
  have hread : m.view.readAt (Elt F) r.toLoadRect f = unsq h v := by
    funext i
    have := congrFun hf ((Shape.reshapeEquiv h.numel_eq).symm i)
    unfold unsq
    rw [← this]
    show (m.view.slice r).read (Elt F) f i = ((m.view.slice r).reshape _ _).read (Elt F) f _
    rw [View.read_apply, View.read_apply]
    simp
  rw [hset]
  iapply (wp_load 𝒱 (c : Thread nD τ) none Set.univ (m := m) (S := (m.view.slice r).set) (f := f) (q := q)
    (by rw [View.set_slice]; exact Finset.Subset.refl _)) $$ H
  iintro H
  rw [hread]
  iapply Hk
  iexists f
  isplitr
  · ipureintro; exact hf
  · iexact H

/-- A load of a box that is itself a held slice. -/
theorem wp_load_slice {s : Shape} (m : Memref sig .tc .vmem s .f32) (r : Rect s) (hr : ∀ a, r.stride a = 1)
    {q : PosShare TreeShare} {v : r.shape.Idx → Elt F .f32} {hl : m.view.LoadsAt r.toLoadRect} {α : Type} {Q : α → sProp 𝕄}
    {k : (r.shape.Idx → Elt F .f32) → Prog (TpuEff nD τ sig (Elt F) Λ .tc) α} :
    (owns (c : Thread nD τ) (m.slice r hr) q v : sProp 𝕄)
      ⊢ iprop((owns (c : Thread nD τ) (m.slice r hr) q v -∗ wp frame (wpE defs 𝒱 (c : Thread nD τ) none) Set.univ (k v) Q)
          -∗ wp frame (wpE defs 𝒱 (c : Thread nD τ) none) Set.univ (.op (.load m r.toLoadRect hl) k) Q) := by
  unfold owns
  iintro ⟨%f, %hf, H⟩ Hk
  have hread : m.view.readAt (Elt F) r.toLoadRect f = v := hf
  iapply (wp_load 𝒱 (c : Thread nD τ) none Set.univ (m := m) (S := (m.view.slice r).set) (f := f) (q := q)
    (by rw [View.set_slice]; exact Finset.Subset.refl _)) $$ H
  iintro H
  rw [hread]
  iapply Hk
  iexists f
  isplitr
  · ipureintro; exact hf
  · iexact H

/-- A load of a box of a memref that is held whole. -/
theorem wp_load_part {s : Shape} (m : Memref sig .tc .vmem s .f32) (r : Rect s)
    {q : PosShare TreeShare} {X : s.Idx → Elt F .f32} {hl : m.view.LoadsAt r.toLoadRect} {α : Type} {Q : α → sProp 𝕄}
    {k : (r.shape.Idx → Elt F .f32) → Prog (TpuEff nD τ sig (Elt F) Λ .tc) α} :
    (owns (c : Thread nD τ) m q X : sProp 𝕄)
      ⊢ iprop((owns (c : Thread nD τ) m q X -∗ wp frame (wpE defs 𝒱 (c : Thread nD τ) none) Set.univ (k fun i => X (r.emb i)) Q)
          -∗ wp frame (wpE defs 𝒱 (c : Thread nD τ) none) Set.univ (.op (.load m r.toLoadRect hl) k) Q) := by
  unfold owns
  iintro ⟨%f, %hf, H⟩ Hk
  have hread : m.view.readAt (Elt F) r.toLoadRect f = fun i => X (r.emb i) := by
    rw [← hf]; rfl
  iapply (wp_load 𝒱 (c : Thread nD τ) none Set.univ (m := m) (S := m.view.set) (f := f) (q := q)
    (by exact Finset.map_subset_map.mpr (Finset.subset_univ _))) $$ H
  iintro H
  rw [hread]
  iapply Hk
  iexists f
  isplitr
  · ipureintro; exact hf
  · iexact H

/-- A store over the box of a held block. -/
theorem wp_store_blk {s : Shape} (m : Memref sig .tc .vmem s .f32) (r : Rect s) (hr : ∀ a, r.stride a = 1) (h : r.shape.Squeezes S32x512)
    {v : Blk F} {w : r.shape.Idx → Elt F .f32} {hx : (m.access r).Stores Finset.univ} {hm} {α : Type} {Q : α → sProp 𝕄}
    {k : PUnit → Prog (TpuEff nD τ sig (Elt F) Λ .tc) α} :
    (owns (c : Thread nD τ) ((m.slice r hr).squeeze S32x512 h) fullShare v : sProp 𝕄)
      ⊢ iprop((owns (c : Thread nD τ) ((m.slice r hr).squeeze S32x512 h) fullShare (fun i => w (Shape.reshapeEquiv h.numel_eq i))
              -∗ wp frame (wpE defs 𝒱 (c : Thread nD τ) none) Set.univ (k ⟨⟩) Q)
          -∗ wp frame (wpE defs 𝒱 (c : Thread nD τ) none) Set.univ (.op (.store m r w Finset.univ hx hm) k) Q) := by
  unfold owns
  iintro ⟨%f, %hf, H⟩ Hk
  have hset : ((m.slice r hr).squeeze S32x512 h).view.set = (m.access r).set := View.set_reshape _ _
  rw [hset]
  iapply (wp_store 𝒱 (c : Thread nD τ) none Set.univ (m := m) (r := r) (Mk := Finset.univ) (S := (m.access r).set) (f := f)
    (by exact Finset.Subset.refl _)) $$ H
  iintro H
  iapply Hk
  iexists _
  isplitr
  rotate_left
  · iexact H
  · ipureintro
    funext i
    have := congrFun (View.read_write_univ (v := m.access r) f w) (Shape.reshapeEquiv h.numel_eq i)
    rw [← this]
    show ((m.view.slice r).reshape _ _).read (Elt F) _ i = (m.view.slice r).read (Elt F) _ _
    rw [View.read_apply, View.read_apply]
    simp

/-- A store over a held slice. -/
theorem wp_store_slice {s : Shape} (m : Memref sig .tc .vmem s .f32) (r : Rect s) (hr : ∀ a, r.stride a = 1)
    {v : r.shape.Idx → Elt F .f32} {w : r.shape.Idx → Elt F .f32} {hx : (m.access r).Stores Finset.univ} {hm} {α : Type} {Q : α → sProp 𝕄}
    {k : PUnit → Prog (TpuEff nD τ sig (Elt F) Λ .tc) α} :
    (owns (c : Thread nD τ) (m.slice r hr) fullShare v : sProp 𝕄)
      ⊢ iprop((owns (c : Thread nD τ) (m.slice r hr) fullShare w -∗ wp frame (wpE defs 𝒱 (c : Thread nD τ) none) Set.univ (k ⟨⟩) Q)
          -∗ wp frame (wpE defs 𝒱 (c : Thread nD τ) none) Set.univ (.op (.store m r w Finset.univ hx hm) k) Q) := by
  unfold owns
  iintro ⟨%f, %hf, H⟩ Hk
  iapply (wp_store 𝒱 (c : Thread nD τ) none Set.univ (m := m) (r := r) (Mk := Finset.univ) (S := (m.access r).set) (f := f)
    (by exact Finset.Subset.refl _)) $$ H
  iintro H
  iapply Hk
  iexists _
  isplitr
  rotate_left
  · iexact H
  · ipureintro
    exact View.read_write_univ (v := m.access r) f w

end Access

end Cert.AllReduce
-- ==== Proof.Steps.lean ====
/-
# The kernel's steps, as a short program

The printed kernel is one straight line per place in the column; read off, it is six kinds of step — a send and two waits
per channel, the sum of a block, the norm of a block, the handshake — in loops over lists of channels. This module states
those steps, each with what comes after it, and the loops.
-/
module

public import proofs.«01_k».proof.Proof.Views
public import proofs.«01_k».proof.Proof.Gen.KernelIdeal.Skeleton

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

variable (F) in
/-- Programs of the kernel. -/
abbrev Pg : Type 1 := Prog (TpuEff nD τ sig (Elt F) Λ₀ .tc) PUnit

theorem src_exact (k : Ch) (c : Dev nD) : (srcM k c).view.WordExact := by
  rcases k with ⟨d, j⟩ | j | j | ⟨d, j⟩
  · exact (View.wordExact_bits rfl).reshape _ _
  · exact (View.wordExact_bits rfl).reshape _ _
  · exact View.wordExact_bits rfl
  · exact View.wordExact_bits rfl
theorem dst_exact (k : Ch) (c : Dev nD) : (dstM k c).view.WordExact := by
  rcases k with ⟨d, j⟩ | j | j | ⟨d, j⟩
  · exact (View.wordExact_bits rfl).reshape _ _
  · exact (View.wordExact_bits rfl).reshape _ _
  · exact View.wordExact_bits rfl
  · exact View.wordExact_bits rfl
theorem dst_tc (k : Ch) (c : Dev nD) : (dstM k c).view.ref.isScScratch = false := by
  rcases k with ⟨d, j⟩ | j | j | ⟨d, j⟩ <;> rfl
theorem send_typed (k : Ch) (c p : Dev nD) :
    DmaTarget.Typed (sig := sig) (p := .tc) .vmem (.dma (rS k)) (.remote (Dev.tc p : Thread nD τ) (dstM k c) (.dma (sS k)) (dst_tc k c)) :=
  ⟨⟨rfl, Or.inl rfl⟩, trivial⟩

/-- Start channel `k`'s copy to the peer. -/
def opSend (k : Ch) (c : Dev nD) (K : Pg F) : Pg F :=
  .op (.enqueueDma (srcM k c) (.remote (Dev.tc (peer k c) : Thread nD τ) (dstM k c) (.dma (sS k)) (dst_tc k c)) (.dma (rS k))
    (src_exact k c) (dst_exact k c) (send_typed k c _)) fun _ => K
/-- Wait until the copy that arrives on channel `k` is in. -/
def opRecv (k : Ch) (c : Dev nD) (K : Pg F) : Pg F :=
  .op (.waitDma2 (rS k) (srcM k c) (dstM k c) (src_exact k c) (dst_exact k c)) fun _ => K
/-- Wait until this device's own copy on channel `k` has left. -/
def opSent (k : Ch) (c : Dev nD) (K : Pg F) : Pg F :=
  .op (.waitDma2 (sS k) (dstM k c) (srcM k c) (dst_exact k c) (src_exact k c)) fun _ => K
/-- Signal one neighbour's barrier semaphore. -/
def opSignal (b : Nb) (c : Dev nD) (K : Pg F) : Pg F :=
  .op (.semSignal (Dev.tc (nb b c) : Thread nD τ) barS (1#32).toInt) fun _ => K
/-- Wait for all six neighbours. -/
def opMeet (K : Pg F) : Pg F := .op (.semWait barS (6#32).toInt) fun _ => K

def sends : List Ch → Dev nD → Pg F → Pg F
  | [], _, K => K
  | k :: l, c, K => opSend k c (sends l c K)
def recvs : List Ch → Dev nD → Pg F → Pg F
  | [], _, K => K
  | k :: l, c, K => opRecv k c (recvs l c K)
def sents : List Ch → Dev nD → Pg F → Pg F
  | [], _, K => K
  | k :: l, c, K => opSent k c (sents l c K)
def signals : List Nb → Dev nD → Pg F → Pg F
  | [], _, K => K
  | b :: l, c, K => opSignal b c (signals l c K)

/-- Load the device's own block of slab `j` places on and the three blocks landed for it. -/
def opFour (j : Fin 4) (c : Dev nD) (K : Vec F S1x32x512 .f32 → Vec F S1x1x32x512 .f32 → Vec F S1x1x32x512 .f32 → Vec F S1x1x32x512 .f32 → Pg F) : Pg F :=
  .op (.load xM (xR (slabF j c)).toLoadRect (View.loadsAt_vmem h_S1x32x512)) fun v0 =>
  .op (.load b1W (b1R (0, j)).toLoadRect (View.loadsAt_vmem h_S1x1x32x512)) fun v1 =>
  .op (.load b1W (b1R (1, j)).toLoadRect (View.loadsAt_vmem h_S1x1x32x512)) fun v2 =>
  .op (.load b1W (b1R (2, j)).toLoadRect (View.loadsAt_vmem h_S1x1x32x512)) fun v3 => K v0 v1 v2 v3
/-- Their sum into the sum buffer. -/
def opSum (j : Fin 3) (c : Dev nD) (K : Pg F) : Pg F :=
  opFour j.succ c fun v0 v1 v2 v3 =>
  .op (.load zW (zR j).toLoadRect (View.loadsAt_vmem h_S1x32x512)) fun _ =>
  .op (.store zW (zR j) (k0_pay1 v0 v1 v2 v3) Finset.univ (View.stores_vmem_bits_univ h_S1x32x512 rfl) (.inl rfl)) fun _ => K

/-- A landed column block is waited for and loaded. -/
def opCol (j : Fin 3) (c : Dev nD) (K : Vec F S1x32x512 .f32 → Pg F) : Pg F :=
  opRecv (p2 j) c (.op (.load b2W (zR j).toLoadRect (View.loadsAt_vmem h_S1x32x512)) K)
/-- The whole of `gamma`. -/
abbrev gR : Rect S512 := Rect.unit (s := S512) ![0] S512.size inb_S512_S512_0
/-- The device's own slab: the plane sum, the three column sums and the residual, normalised, into the result. -/
def opNorm (c : Dev nD) (K : Pg F) : Pg F :=
  recvs [p1 0 0, p1 1 0, p1 2 0] c <|
  opFour 0 c fun v0 v1 v2 v3 =>
  opCol 0 c fun u0 => opCol 1 c fun u1 => opCol 2 c fun u2 =>
  .op (.load resM (oR (slab c)).toLoadRect (View.loadsAt_vmem h_S32x512)) fun r =>
  .op (.load gamM gR.toLoadRect (View.loadsAt_vmem h_S512)) fun g =>
  .op (.load outM (oR (slab c)).toLoadRect (View.loadsAt_vmem h_S32x512)) fun _ =>
  .op (.store outM (oR (slab c)) (k0_pay20 (k0_pay18 (k0_pay17 v0 v1 v2 v3) u0 u1 u2 r) (k0_pay19 (k0_pay17 v0 v1 v2 v3) u0 u1 u2 r) g) Finset.univ
    (View.stores_vmem_bits_univ h_S32x512 rfl) (.inl rfl)) fun _ => K

/-- Columns farthest first, as the kernel orders them at each place: the `i`-th is column `far c i`. -/
def farL (c : Dev nD) : List (Fin 3) :=
  if c.val / 4 = 0 then [2, 1, 0] else if c.val / 4 = 1 then [1, 0, 2] else if c.val / 4 = 2 then [1, 0, 2] else [0, 1, 2]
/-- Columns nearest first. -/
def nearL (c : Dev nD) : List (Fin 3) :=
  if c.val / 4 = 0 then [2, 1, 0] else if c.val / 4 = 1 then [0, 2, 1] else if c.val / 4 = 2 then [0, 2, 1] else [0, 1, 2]

/-- The three plane copies of block `j` of the first and of the fourth phase. -/
abbrev p1s (j : Fin 4) : List Ch := [p1 0 j, p1 1 j, p1 2 j]
abbrev p4s (j : Fin 4) : List Ch := [p4 0 j, p4 1 j, p4 2 j]

/-- Reduce the columns in the list: for each, its three landed blocks, the sum, the column copy. -/
def reduceCols : List (Fin 3) → Dev nD → Pg F → Pg F
  | [], _, K => K
  | j :: l, c, K => recvs (p1s j.succ) c (opSum j c (opSend (p2 j) c (reduceCols l c K)))
/-- Pass on the columns in the list: for each, its landed result, the three plane copies. -/
def passCols : List (Fin 3) → Dev nD → Pg F → Pg F
  | [], _, K => K
  | j :: l, c, K => opRecv (p3 j) c (sends (p4s j.succ) c (passCols l c K))

/-- The first half: all first-phase copies, then the columns. -/
def reduceHalf (l : List (Fin 3)) (c : Dev nD) (K : Pg F) : Pg F :=
  sends (l.flatMap (fun j => p1s j.succ) ++ p1s 0) c (reduceCols l c K)
/-- The second half: the result to the column and to the plane, then what arrives from the column to the plane. -/
def passHalf (l l' : List (Fin 3)) (c : Dev nD) (K : Pg F) : Pg F :=
  sends (l.map p3 ++ p4s 0) c (passCols l' c K)

/-- The waits at the end: what arrives from the plane, then all that left. -/
def endR : List Ch := [p4 0 0, p4 1 0, p4 2 0, p4 0 1, p4 1 1, p4 2 1, p4 0 2, p4 1 2, p4 2 2, p4 0 3, p4 1 3, p4 2 3]
def endS : List Ch :=
  [p1 0 0, p1 1 0, p1 2 0, p1 0 1, p1 1 1, p1 2 1, p1 0 2, p1 1 2, p1 2 2, p1 0 3, p1 1 3, p1 2 3, p2 0, p2 1, p2 2, p3 0, p3 1, p3 2,
   p4 0 0, p4 1 0, p4 2 0, p4 0 1, p4 1 1, p4 2 1, p4 0 2, p4 1 2, p4 2 2, p4 0 3, p4 1 3, p4 2 3]

/-- The neighbours in the order they are signalled. -/
def nbL : List Nb := [(false, 0), (true, 0), (false, 1), (true, 1), (false, 2), (true, 2)]

/-- The kernel at device `c`, once it knows its place. -/
def kern (c : Dev nD) : Pg F :=
  signals nbL c <| opMeet <| reduceHalf (farL c) c <| opNorm c <| passHalf (farL c) (nearL c) c <| recvs endR c <| sents endS c <| .ret ⟨⟩

end Cert.AllReduce
-- ==== Proof.Lists.lean ====
/-
# Resources along a list

`sepL l Φ` is `Φ` of each member of the list, held side by side. Over a whole finite type it does not depend on the
list's order.
-/
module

public import proofs.«01_k».proof.Proof.Mesh
public import Idealize.ShloMosaic.Lib.Tactic

@[expose] public section

noncomputable section

namespace Cert.AllReduce

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

def sepL {T : Type} : List T → (T → sProp M) → sProp M
  | [], _ => iprop(emp)
  | k :: l, Φ => iprop(Φ k ∗ sepL l Φ)

theorem sepL_append {T : Type} (l l' : List T) (Φ : T → sProp M) : sepL (l ++ l') Φ = iprop(sepL l Φ ∗ sepL l' Φ) := by
  induction l with
  | nil => exact (BI.equiv_iff.mp ⟨emp_sep.1, emp_sep.2⟩).symm
  | cons k l ih =>
    show iprop(Φ k ∗ sepL (l ++ l') Φ) = iprop((Φ k ∗ sepL l Φ) ∗ sepL l' Φ)
    rw [ih]
    have h1 : iprop((Φ k ∗ sepL l Φ) ∗ sepL l' Φ) ⊢ iprop(Φ k ∗ sepL l Φ ∗ sepL l' Φ) := sep_assoc.1
    have h2 : iprop(Φ k ∗ sepL l Φ ∗ sepL l' Φ) ⊢ iprop((Φ k ∗ sepL l Φ) ∗ sepL l' Φ) := sep_assoc.2
    exact BI.equiv_iff.mp ⟨h2, h1⟩
theorem sepL_map {S T : Type} (f : S → T) (l : List S) (Φ : T → sProp M) : sepL (l.map f) Φ = sepL l fun s => Φ (f s) := by
  induction l with
  | nil => rfl
  | cons k l ih => show iprop(Φ (f k) ∗ sepL (l.map f) Φ) = _; rw [ih]; rfl
theorem sepL_flatMap {S T : Type} (f : S → List T) (l : List S) (Φ : T → sProp M) : sepL (l.flatMap f) Φ = sepL l fun s => sepL (f s) Φ := by
  induction l with
  | nil => rfl
  | cons k l ih => rw [List.flatMap_cons, sepL_append, ih]; rfl
theorem sepL_sep {T : Type} (l : List T) (Φ Ψ : T → sProp M) : sepL l (fun k => iprop(Φ k ∗ Ψ k)) = iprop(sepL l Φ ∗ sepL l Ψ) := by
  induction l with
  | nil => exact (BI.equiv_iff.mp ⟨emp_sep.1, emp_sep.2⟩).symm
  | cons k l ih =>
    show iprop((Φ k ∗ Ψ k) ∗ sepL l fun k => iprop(Φ k ∗ Ψ k)) = iprop((Φ k ∗ sepL l Φ) ∗ Ψ k ∗ sepL l Ψ)
    rw [ih]
    refine BI.equiv_iff.mp ⟨?_, ?_⟩
    · have h : iprop((Φ k ∗ Ψ k) ∗ sepL l Φ ∗ sepL l Ψ) ⊢ iprop((Φ k ∗ sepL l Φ) ∗ Ψ k ∗ sepL l Ψ) := by
        iintro ⟨⟨H1, H2⟩, H3, H4⟩
        isplitl [H1 H3]
        · isplitl [H1] <;> iassumption
        · isplitl [H2] <;> iassumption
      exact h
    · have h : iprop((Φ k ∗ sepL l Φ) ∗ Ψ k ∗ sepL l Ψ) ⊢ iprop((Φ k ∗ Ψ k) ∗ sepL l Φ ∗ sepL l Ψ) := by
        iintro ⟨⟨H1, H2⟩, H3, H4⟩
        isplitl [H1 H3]
        · isplitl [H1] <;> iassumption
        · isplitl [H2] <;> iassumption
      exact h
theorem sepL_mono {T : Type} (l : List T) {Φ Ψ : T → sProp M} (h : ∀ k, Φ k ⊢ Ψ k) : sepL l Φ ⊢ sepL l Ψ := by
  induction l with
  | nil => iintro H; iexact H
  | cons k l ih =>
    show iprop(Φ k ∗ sepL l Φ) ⊢ iprop(Ψ k ∗ sepL l Ψ)
    iintro ⟨H1, H2⟩
    isplitl [H1]
    · iapply (h k); iexact H1
    · iapply ih; iexact H2
theorem sepL_toFinset {T : Type} [DecidableEq T] (l : List T) (hl : l.Nodup) (Φ : T → sProp M) : bigSep l.toFinset Φ = sepL l Φ := by
  induction l with
  | nil => exact bigSep_empty
  | cons k l ih =>
    rw [List.toFinset_cons, bigSep_insert (by rw [List.mem_toFinset]; exact (List.nodup_cons.mp hl).1), ih (List.nodup_cons.mp hl).2]
    rfl
/-- Over a whole type: any list that names each member once. -/
theorem sepL_univ {T : Type} [DecidableEq T] [Fintype T] (l : List T) (hl : l.Nodup) (hc : ∀ t, t ∈ l) (Φ : T → sProp M) :
    bigSep Finset.univ Φ = sepL l Φ := by
  rw [← sepL_toFinset l hl]
  congr 1
  exact (Finset.eq_univ_iff_forall.mpr fun t => List.mem_toFinset.mpr (hc t)).symm
/-- Over a whole type, along any map onto it that names each member once. -/
theorem bigSep_bij {S T : Type} [DecidableEq S] [Fintype S] [DecidableEq T] [Fintype T] (f : S → T) (hf : Function.Bijective f) (Φ : T → sProp M) :
    bigSep Finset.univ Φ = bigSep Finset.univ fun s => Φ (f s) :=
  bigSep_univ_equiv (Equiv.ofBijective f hf) Φ

end Cert.AllReduce
-- ==== Proof.Sched.lean ====
/-
# The protocol: what each semaphore hands over, and to whom

Every cell of the protocol has one round. A barrier cell has six duties of one unit, one per neighbour; a neighbour's
signal hands over the blocks the receiver will write on that neighbour. A channel's send cell hands the source back, its
receive cell the landed block with its contents. The contents are those of the one run there is: plane sums, then the
normalised slab.
-/
module

public import proofs.«01_k».proof.Proof.Steps
public import proofs.«01_k».proof.Proof.Lists
public import Idealize.ShloMosaic.Lib.MemrefSat
public import Idealize.ShloMosaic.Lib.Rounds

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's own rounds and the protocol's -/

abbrev UB : Type := URounds (GSem nD τ sig) Nb
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A memref on device `c` held at share `q` with the contents `X`. -/
abbrev own (c : Dev nD) {s : Shape} (m : Memref sig .tc .vmem s .f32) (q : PosShare TreeShare) (X : s.Idx → Elt F .f32) : sProp 𝕄 :=
  owns (Ix := Unit) (Name := ℕ) (U := UU) (Lvl := ℕ) (c : Thread nD τ) m q X

/-! ## Contents -/

variable (F) in
/-- The staged inputs of every device. -/
structure Ins where
  x : Dev nD → S1x512x512.Idx → Elt F .f32
  res : Dev nD → S512x512.Idx → Elt F .f32
  gam : Dev nD → S512.Idx → Elt F .f32

section Values

variable (I : Ins F)

/-- What channel `p1 d j` brings to `c`. -/
def p1v (d : Fin 3) (j : Fin 4) (c : Dev nD) : Blk F := xB (I.x (pl d.rev c)) (slabF j c)
/-- The sum over the plane of slab `j` places on. -/
def psum (j : Fin 4) (c : Dev nD) : Blk F :=
  k0_pay17 (unsq squeezes_S1x32x512_S32x512 (xB (I.x c) (slabF j c))) (unsq squeezes_S1x1x32x512_S32x512 (p1v I 0 j c))
    (unsq squeezes_S1x1x32x512_S32x512 (p1v I 1 j c)) (unsq squeezes_S1x1x32x512_S32x512 (p1v I 2 j c))
/-- What channel `p2 j` brings to `c`. -/
def p2v (j : Fin 3) (c : Dev nD) : Blk F := psum I j.succ (col j.rev c)
/-- The result on the slab of `c`. -/
def outv (c : Dev nD) : Blk F :=
  k0_pay20
    (k0_pay18 (psum I 0 c) (unsq squeezes_S1x32x512_S32x512 (p2v I 0 c)) (unsq squeezes_S1x32x512_S32x512 (p2v I 1 c))
      (unsq squeezes_S1x32x512_S32x512 (p2v I 2 c)) (oB (I.res c) (slab c)))
    (k0_pay19 (psum I 0 c) (unsq squeezes_S1x32x512_S32x512 (p2v I 0 c)) (unsq squeezes_S1x32x512_S32x512 (p2v I 1 c))
      (unsq squeezes_S1x32x512_S32x512 (p2v I 2 c)) (oB (I.res c) (slab c)))
    (I.gam c)
/-- What a channel of `c` carries. -/
def val : Ch → Dev nD → Blk F
  | p1 d j, c => xB (I.x c) (slabF j (pl d c))
  | p2 j, c => psum I j.succ c
  | p3 _, c => outv I c
  | p4 _ j, c => outv I (zb j c)

theorem zb_succ (j : Fin 3) (c : Dev nD) : zb j.succ c = col j.rev c := by revert j c; decide
theorem zb_zero (c : Dev nD) : zb 0 c = c := by revert c; decide
theorem slabF_zero (c : Dev nD) : slabF 0 c = slab c := by revert c; decide

theorem val_p1 (d : Fin 3) (j : Fin 4) (c : Dev nD) : val I (p1 d j) (orig (p1 d j) c) = p1v I d j c := by
  show xB (I.x (pl d.rev c)) (slabF j (pl d (pl d.rev c))) = _
  rw [pl_rev]; rfl
theorem val_p2 (j : Fin 3) (c : Dev nD) : val I (p2 j) (orig (p2 j) c) = p2v I j c := rfl
theorem val_p3 (j : Fin 3) (c : Dev nD) : val I (p3 j) (orig (p3 j) c) = outv I (col j.rev c) := rfl

/-- The sum stored into the sum buffer, as a block. -/
theorem pay1_blk (v0 : Vec F S1x32x512 .f32) (v1 v2 v3 : Vec F S1x1x32x512 .f32) :
    (fun i : S32x512.Idx => k0_pay1 v0 v1 v2 v3 (Shape.reshapeEquiv squeezes_S1x32x512_S32x512.numel_eq i)) = k0_pay17 v0 v1 v2 v3 := by
  funext i
  show k0_pay17 v0 v1 v2 v3 (Shape.reshapeEquiv _ (Shape.reshapeEquiv _ i)) = _
  congr 1
  exact (Shape.reshapeEquiv _).symm_apply_apply i

end Values

/-! ## Shares: a block that leaves three (or six) ways at once -/

def sh3 (q : PosShare TreeShare) : Fin 3 → PosShare TreeShare := ![q.left, q.right.left, q.right.right]
def shr : Ch → PosShare TreeShare
  | p1 _ _ => fullShare
  | p2 _ => fullShare
  | p3 j => sh3 (fullShare : PosShare TreeShare).left j
  | p4 d ⟨0, _⟩ => sh3 (fullShare : PosShare TreeShare).right d
  | p4 d ⟨_ + 1, _⟩ => sh3 fullShare d

omit [FloatOps F] in
theorem own_two (c : Dev nD) {s : Shape} (m : Memref sig .tc .vmem s .f32) (q : PosShare TreeShare) (X : s.Idx → Elt F .f32) :
    (own c m q X : sProp 𝕄) = iprop(own c m q.left X ∗ own c m q.right X) :=
  BI.equiv_iff.mp ⟨(owns_halves (c : Thread nD τ) m q X).mp, (owns_halves (c : Thread nD τ) m q X).mpr⟩
omit [FloatOps F] in
theorem own_three (c : Dev nD) {s : Shape} (m : Memref sig .tc .vmem s .f32) (q : PosShare TreeShare) (X : s.Idx → Elt F .f32) :
    (own c m q X : sProp 𝕄) = iprop(own c m (sh3 q 0) X ∗ own c m (sh3 q 1) X ∗ own c m (sh3 q 2) X) := by
  rw [own_two c m q X, own_two c m q.right X]
  rfl

/-! ## What the semaphores hand over -/

section Pay

variable (I : Ins F)

/-- The source of a channel of `c`. -/
def srcRes (k : Ch) (c : Dev nD) : sProp 𝕄 := own c (srcM k c) (shr k) (val I k c)
/-- The place a channel of `c` lands in, on the peer, whatever it holds. -/
def dstRes (k : Ch) (c : Dev nD) : sProp 𝕄 := iprop(∃ v : Blk F, own (peer k c) (dstM k c) fullShare v)
/-- What lands on `c`. -/
def rPay (k : Ch) (c : Dev nD) : sProp 𝕄 := own c (dstM k (orig k c)) fullShare (val I k (orig k c))
/-- The channels to a neighbour. -/
def chs : Nb → List Ch
  | (false, d) => [p1 d 0, p1 d 1, p1 d 2, p1 d 3, p4 d 0, p4 d 1, p4 d 2, p4 d 3]
  | (true, j) => [p2 j, p3 j]
/-- What neighbour `b` of `p` hands `p` with its signal: the places `p` will write there. -/
def get (b : Nb) (p : Dev nD) : sProp 𝕄 := sepL (chs b) fun k => dstRes k p

omit [FloatOps F] in
instance sepL_storable {T : Type} (l : List T) (Φ : T → sProp 𝕄) [h : ∀ k, BI.Storable (upEmb : UEmb _ 𝕄) (Φ k)] :
    BI.Storable (upEmb : UEmb _ 𝕄) (sepL l Φ) := by
  induction l with
  | nil => unfold sepL; infer_instance
  | cons k l ih => unfold sepL; infer_instance
omit [FloatOps F] in
instance dstRes_storable (k : Ch) (c : Dev nD) : BI.Storable (upEmb : UEmb _ 𝕄) (dstRes (F := F) k c) := by unfold dstRes own; infer_instance
omit [FloatOps F] in
instance get_storable (b : Nb) (c : Dev nD) : BI.Storable (upEmb : UEmb _ 𝕄) (get (F := F) b c) := by unfold get; infer_instance
instance srcRes_storable (k : Ch) (c : Dev nD) : BI.Storable (upEmb : UEmb _ 𝕄) (srcRes I k c) := by unfold srcRes own; infer_instance
instance rPay_storable (k : Ch) (c : Dev nD) : BI.Storable (upEmb : UEmb _ 𝕄) (rPay I k c) := by unfold rPay own; infer_instance

/-- The kind of a cell, if the protocol uses it. -/
def kd (g : GSem nD τ sig) : Option Cx := if g.1.2 = .tc then kindOf g.2 else none
theorem kd_cell (x : Cx) (c : Dev nD) : kd (cell x c) = some x := by
  unfold kd cell; exact (if_pos rfl).trans (kindOf_csem x)

/-- The one duty of a channel's cell. -/
abbrev dd : Nb := (false, 0)

def dutiesOf : Option Cx → Finset Nb
  | some (.inl _) => Finset.univ
  | some (.inr _) => {dd}
  | none => ∅
def amountOf : Option Cx → ℕ
  | some (.inr _) => N
  | _ => 1
def payOf (d : Nb) (c : Dev nD) : Option Cx → sProp 𝕄
  | some (.inl _) => get d c
  | some (.inr (.inl k)) => srcRes I k c
  | some (.inr (.inr k)) => rPay I k c
  | none => iprop(emp)

/-- The protocol. -/
def Rd : Rounds.Schedule (GSem nD τ sig) Nb 𝕄 where
  duties g r := if r = 0 then dutiesOf (kd g) else ∅
  unitless _ := False
  amount g _ _ := amountOf (kd g)
  payload g _ d := payOf I d g.1.1 (kd g)
  amount_pos g _ _ _ := by
    unfold amountOf; split
    · exact N_pos
    · exact Nat.one_pos

instance Rd_payload_storable (g : GSem nD τ sig) (r : ℕ) (d : Nb) : BI.Storable (upEmb : UEmb _ 𝕄) ((Rd I).payload g r d) := by
  show BI.Storable upEmb (payOf I d g.1.1 (kd g))
  unfold payOf; split <;> infer_instance

theorem duties_cell (x : Cx) (c : Dev nD) : (Rd I).duties (cell x c) 0 = dutiesOf (some x) := by
  show (if (0 : ℕ) = 0 then dutiesOf (kd (cell x c)) else ∅) = _
  rw [if_pos rfl, kd_cell]
theorem duties_later (g : GSem nD τ sig) : ∀ r, 1 ≤ r → (Rd I).duties g r = ∅ := fun r hr => if_neg (by omega)
theorem amount_cell (x : Cx) (c : Dev nD) (d : Nb) : (Rd I).amount (cell x c) 0 d = amountOf (some x) := by
  show amountOf (kd (cell x c)) = _
  rw [kd_cell]
theorem payload_cell (x : Cx) (c : Dev nD) (d : Nb) : (Rd I).payload (cell x c) 0 d = payOf I d c (some x) := by
  show payOf I d c (kd (cell x c)) = _
  rw [kd_cell]

theorem duties_bar (c : Dev nD) : (Rd I).duties (bCell c) 0 = Finset.univ := duties_cell I (.inl ()) c
theorem duties_send (k : Ch) (c : Dev nD) : (Rd I).duties (sCell k c) 0 = {dd} := duties_cell I (.inr (.inl k)) c
theorem duties_recv (k : Ch) (c : Dev nD) : (Rd I).duties (rCell k c) 0 = {dd} := duties_cell I (.inr (.inr k)) c
theorem amount_bar (c : Dev nD) (d : Nb) : (Rd I).amount (bCell c) 0 d = 1 := amount_cell I (.inl ()) c d
theorem amount_send (k : Ch) (c : Dev nD) (d : Nb) : (Rd I).amount (sCell k c) 0 d = N := amount_cell I (.inr (.inl k)) c d
theorem amount_recv (k : Ch) (c : Dev nD) (d : Nb) : (Rd I).amount (rCell k c) 0 d = N := amount_cell I (.inr (.inr k)) c d
theorem payload_bar (c : Dev nD) (d : Nb) : (Rd I).payload (bCell c) 0 d = get d c := payload_cell I (.inl ()) c d
theorem payload_send (k : Ch) (c : Dev nD) (d : Nb) : (Rd I).payload (sCell k c) 0 d = srcRes I k c := payload_cell I (.inr (.inl k)) c d
theorem payload_recv (k : Ch) (c : Dev nD) (d : Nb) : (Rd I).payload (rCell k c) 0 d = rPay I k c := payload_cell I (.inr (.inr k)) c d

theorem expect_bar (c : Dev nD) : (Rd I).expect (bCell c) 0 = 6 := by
  unfold Schedule.expect Schedule.amountOf
  rw [duties_bar, Finset.sum_congr rfl fun d _ => amount_bar I c d, Finset.sum_const, Finset.card_univ]
  rfl
theorem expect_send (k : Ch) (c : Dev nD) : (Rd I).expect (sCell k c) 0 = N := by
  unfold Schedule.expect Schedule.amountOf; rw [duties_send, Finset.sum_singleton, amount_send]
theorem expect_recv (k : Ch) (c : Dev nD) : (Rd I).expect (rCell k c) 0 = N := by
  unfold Schedule.expect Schedule.amountOf; rw [duties_recv, Finset.sum_singleton, amount_recv]

theorem rest_bar (c : Dev nD) : bigSep ((Rd I).duties (bCell c) 0 \ ∅) (fun d => (Rd I).payload (bCell c) 0 d) = bigSep Finset.univ fun b => get b c := by
  rw [Finset.sdiff_empty, duties_bar]; exact bigSep_congr fun d _ => payload_bar I c d
theorem rest_send (k : Ch) (c : Dev nD) : bigSep ((Rd I).duties (sCell k c) 0 \ ∅) (fun d => (Rd I).payload (sCell k c) 0 d) = srcRes I k c := by
  rw [Finset.sdiff_empty, duties_send, bigSep_singleton, payload_send]
theorem rest_recv (k : Ch) (c : Dev nD) : bigSep ((Rd I).duties (rCell k c) 0 \ ∅) (fun d => (Rd I).payload (rCell k c) 0 d) = rPay I k c := by
  rw [Finset.sdiff_empty, duties_recv, bigSep_singleton, payload_recv]

instance ccEq : DecidableEq (Ch ⊕ Ch) := @instDecidableEqSum _ _ inferInstance inferInstance
instance cxEq : DecidableEq Cx := @instDecidableEqSum _ _ inferInstance ccEq

/-! ## The standing facts: every cell's invariant, that every cell has reached round 0 -/

def records (K : Dev nD × Cx → ℕ) : sProp 𝕄 :=
  iprop((bigSep Finset.univ fun ck : Dev nD × Cx => cellInv ER (Rd I) (K ck) (cell ck.2 ck.1))
    ∗ bigSep Finset.univ fun ck : Dev nD × Cx => reached ER (cell ck.2 ck.1) 0)

instance records_persistent (K : Dev nD × Cx → ℕ) : BI.Persistent (records I K) := by unfold records; infer_instance

theorem inv_at (K : Dev nD × Cx → ℕ) (x : Cx) (c : Dev nD) : records I K ⊢ cellInv ER (Rd I) (K (c, x)) (cell x c) := by
  unfold records
  have h : (bigSep Finset.univ fun ck : Dev nD × Cx => (cellInv ER (Rd I) (K ck) (cell ck.2 ck.1) : sProp 𝕄)) ⊢ cellInv ER (Rd I) (K (c, x)) (cell x c) :=
    bigSep_elim (Finset.mem_univ (c, x))
  iintro ⟨H, -⟩
  iapply h
  iexact H
theorem reached_at (K : Dev nD × Cx → ℕ) (x : Cx) (c : Dev nD) : records I K ⊢ reached ER (cell x c) 0 := by
  unfold records
  have h : (bigSep Finset.univ fun ck : Dev nD × Cx => (reached ER (cell ck.2 ck.1) 0 : sProp 𝕄)) ⊢ reached ER (cell x c) 0 :=
    bigSep_elim (Finset.mem_univ (c, x))
  iintro ⟨-, H⟩
  iapply h
  iexact H

end Pay

/-! ## What a device still owes, and when it may wait -/

/-- The landings a device owes on the channels of a list. -/
def owR (c : Dev nD) : List Ch → CellTallies nD τ sig Unit
  | [] => 0
  | k :: l => owR c l + tallyAt (rCell k (peer k c)) () N
/-- With them the signals it owes the neighbours of a list. -/
def owB (c : Dev nD) (l : List Ch) : List Nb → CellTallies nD τ sig Unit
  | [] => owR c l
  | b :: l' => owB c l l' + tallyAt (bCell (nb b c)) () 1

theorem owR_pos {c : Dev nD} {l : List Ch} {g : GSem nD τ sig} {u : Unit} (h : 0 < owR c l g u) : ∃ k ∈ l, g = rCell k (peer k c) := by
  induction l with
  | nil => exact absurd h (Nat.lt_irrefl 0)
  | cons k l ih =>
    unfold owR at h
    rw [Pi.add_apply, Finsupp.add_apply, tallyAt_apply] at h
    by_cases e : g = rCell k (peer k c) ∧ u = ()
    · exact ⟨k, List.mem_cons_self, e.1⟩
    · rw [if_neg e, Nat.add_zero] at h
      obtain ⟨k', hk, e'⟩ := ih h
      exact ⟨k', List.mem_cons_of_mem _ hk, e'⟩
theorem owB_pos {c : Dev nD} {l : List Ch} {l' : List Nb} {g : GSem nD τ sig} {u : Unit} (h : 0 < owB c l l' g u) :
    (∃ k ∈ l, g = rCell k (peer k c)) ∨ ∃ b ∈ l', g = bCell (nb b c) := by
  induction l' with
  | nil => exact .inl (owR_pos h)
  | cons b l' ih =>
    unfold owB at h
    rw [Pi.add_apply, Finsupp.add_apply, tallyAt_apply] at h
    by_cases e : g = bCell (nb b c) ∧ u = ()
    · exact .inr ⟨b, List.mem_cons_self, e.1⟩
    · rw [if_neg e, Nat.add_zero] at h
      rcases ih h with h | ⟨b', hb, e'⟩
      · exact .inl h
      · exact .inr ⟨b', List.mem_cons_of_mem _ hb, e'⟩

theorem chLev_pos (k : Ch) : 1 < chLev k := by rcases k with ⟨d, j⟩ | j | j | ⟨d, j⟩ <;> simp [chLev]

omit [FloatOps F] in
/-- A wait on a cell of level `n` is allowed while only landings of higher levels are owed. -/
theorem mayWait_oR (x : Cx) (c : Dev nD) (l : List Ch) (h : ∀ k ∈ l, cxLev x < chLev k) :
    (levAts L lv : sProp 𝕄) ⊢ MayWait (c : Thread nD τ) (csem x) () (owR c l) :=
  MayOwe.of_cut (L := L) (lev := lv) (cxLev x) (fun p hp => by rw [Finset.mem_singleton.mp hp, L_tc]; exact Finset.mem_singleton_self _)
    (fun g u hg => by obtain ⟨k, -, rfl⟩ := owR_pos hg; exact Finset.mem_singleton_self _)
    (fun p hp => by rw [Finset.mem_singleton.mp hp]; exact (lv_cell x c).le)
    (fun g u hg => by
      obtain ⟨k, hk, rfl⟩ := owR_pos hg
      exact lt_of_lt_of_eq (h k hk) (lv_recv k _).symm)
omit [FloatOps F] in
/-- The pipeline's own staging waits are below everything. -/
theorem mayWait_stage (c : Dev nD) (q : DmaSem sig) (hq : q.val < 4) (l : List Ch) (l' : List Nb) :
    (levAts L lv : sProp 𝕄) ⊢ MayWait (c : Thread nD τ) (.dma q) () (owB c l l') :=
  MayOwe.of_cut (L := L) (lev := lv) 0 (fun p hp => by rw [Finset.mem_singleton.mp hp, L_tc]; exact Finset.mem_singleton_self _)
    (fun g u hg => by rcases owB_pos hg with ⟨k, -, rfl⟩ | ⟨b, -, rfl⟩ <;> exact Finset.mem_singleton_self _)
    (fun p hp => by rw [Finset.mem_singleton.mp hp]; exact (lv_stage q hq c).le)
    (fun g u hg => by
      rcases owB_pos hg with ⟨k, -, rfl⟩ | ⟨b, -, rfl⟩
      · exact lt_of_lt_of_eq (Nat.lt_trans Nat.zero_lt_one (chLev_pos k)) (lv_recv k _).symm
      · exact lt_of_lt_of_eq Nat.zero_lt_one (lv_bar _).symm)

end Cert.AllReduce
-- ==== Proof.Sums.lean ====
/-
# The sum over the mesh

A device sums its plane's four blocks, then its column's four plane sums. Together these are the blocks of all sixteen
devices, each once, so the result is the sum over the devices in any order.
-/
module

public import proofs.«01_k».proof.Proof.Sched
public import Idealize.ShloMosaic.Lib.Pointwise

@[expose] public section

noncomputable section

namespace Cert.AllReduce

open Cert.KernelIdeal Cert.KernelIdeal.Gen
open Idealize.ShloMosaic
open Idealize.ShloMosaic.TcCoe

/-- The devices, in the order device `c` adds them up. -/
def order (c : Dev nD) : List (Dev nD) :=
  [c, pl 2 c, pl 1 c, pl 0 c,
   col 2 c, pl 2 (col 2 c), pl 1 (col 2 c), pl 0 (col 2 c),
   col 1 c, pl 2 (col 1 c), pl 1 (col 1 c), pl 0 (col 1 c),
   col 0 c, pl 2 (col 0 c), pl 1 (col 0 c), pl 0 (col 0 c)]

theorem order_nodup (c : Dev nD) : (order c).Nodup := by revert c; decide +kernel
theorem order_all (c : Dev nD) : (order c).toFinset = Finset.univ := by revert c; decide +kernel

variable {M : Type} [AddCommMonoid M]

/-- The sum over the plane of `c`. -/
def plane (f : Dev nD → M) (c : Dev nD) : M := f c + f (pl 2 c) + f (pl 1 c) + f (pl 0 c)

theorem sum_order (f : Dev nD → M) (c : Dev nD) : ∑ d, f d = ((order c).map f).sum := by
  rw [← order_all c, List.sum_toFinset f (order_nodup c)]

/-- The four plane sums of the column of `c` are the sum over all devices. -/
theorem sum_planes (f : Dev nD → M) (c : Dev nD) :
    plane f c + plane f (col 2 c) + plane f (col 1 c) + plane f (col 0 c) = ∑ d, f d := by
  rw [sum_order f c]
  unfold plane order
  simp only [List.map_cons, List.map_nil, List.sum_cons, List.sum_nil, add_zero, add_assoc]

/-! ## The kernel's sums at an index -/

variable (I : Ins Ideal)

theorem slabF_back (j : Fin 3) (c : Dev nD) : slabF j.succ (col j.rev c) = slab c := by revert j c; decide

/-- A plane sum at an index. -/
theorem psum_apply (j : Fin 4) (c : Dev nD) (i : S32x512.Idx) :
    psum I j c i = plane (fun d => (xB (I.x d) (slabF j c) i : EReal)) c := by
  unfold psum k0_pay17
  rw [shapeCast_unsq, shapeCast_unsq, shapeCast_unsq, shapeCast_unsq]
  rfl

/-- What a column peer's plane sum is, at an index: its plane's blocks of this device's slab. -/
theorem p2v_apply (j : Fin 3) (c : Dev nD) (i : S32x512.Idx) :
    p2v I j c i = plane (fun d => (xB (I.x d) (slab c) i : EReal)) (col j.rev c) := by
  unfold p2v
  rw [psum_apply, slabF_back]

/-- The row sum before the norm: all devices' blocks of this slab and the residual's. -/
def ySum (c : Dev nD) : FVec Ideal S32x512 .f32 :=
  k0_pay18 (psum I 0 c) (unsq squeezes_S1x32x512_S32x512 (p2v I 0 c)) (unsq squeezes_S1x32x512_S32x512 (p2v I 1 c))
    (unsq squeezes_S1x32x512_S32x512 (p2v I 2 c)) (oB (I.res c) (slab c))

theorem ySum_apply (c : Dev nD) (i : S32x512.Idx) :
    (ySum I c i : EReal) = (∑ d, (xB (I.x d) (slab c) i : EReal)) + (oB (I.res c) (slab c) i : EReal) := by
  rw [← sum_planes (fun d => (xB (I.x d) (slab c) i : EReal)) c, ← slabF_zero c, ← psum_apply, slabF_zero,
    show col 2 c = col (0 : Fin 3).rev c from rfl, show col 1 c = col (1 : Fin 3).rev c from rfl,
    show col 0 c = col (2 : Fin 3).rev c from rfl, ← p2v_apply, ← p2v_apply, ← p2v_apply]
  unfold ySum k0_pay18
  rw [shapeCast_unsq, shapeCast_unsq, shapeCast_unsq, shapeCast_id]
  rfl

end Cert.AllReduce
-- ==== Proof.Norm.lean ====
/-
# The norm, at an index

The kernel's text and the reference's, each read at one element: the element over the root of its row's mean square,
times the column's scale.
-/
module

public import proofs.«01_k».proof.Proof.Sums
public import proofs.«01_k».proof.Proof.Gen.ReferenceIdeal.Run

@[expose] public section

noncomputable section

namespace Cert.AllReduce

open Idealize.ShloMosaic
open Idealize.ShloMosaic.TcCoe

/-- Element `k` of the row `y`, over the root of the row's mean square (and a small constant), times the scale `g`. -/
def normAt (y g : Fin 512 → EReal) (k : Fin 512) : EReal :=
  Ideal.div (y k) (Ideal.sqrt (Ideal.div (∑ l, y l * y l) (Ideal.ofBits FTy.f32 0x44000000#32) + Ideal.ofBits FTy.f32 0x358637BD#32)) * g k

/-! ## The kernel's text -/

section Kernel
open Cert.KernelIdeal Cert.KernelIdeal.Gen

theorem pay19_apply (y : FVec Ideal S32x512 .f32) (a : Fin 32) :
    multiReduction .add [1] S32 (mulf y y) 0x00000000#32 reduces_S32x512_S32 (.inl rfl) rfl (ix1 a)
      = (∑ l : Fin 512, (y (ix2 a l) * y (ix2 a l) : EReal) : EReal) := by
  pointwise

theorem pay20_apply (y : FVec Ideal S32x512 .f32) (q : FVec Ideal S32 .f32) (g : FVec Ideal S512 .f32) (a : Fin 32) (b : Fin 512) :
    k0_pay20 y q g (ix2 a b)
      = Ideal.div (y (ix2 a b)) (Ideal.sqrt (Ideal.div (q (ix1 a)) (Ideal.ofBits FTy.f32 0x44000000#32) + Ideal.ofBits FTy.f32 0x358637BD#32)) * g (ix1 b) := by
  pointwise [k0_pay20]

variable (I : Ins Ideal)

/-- The kernel's result on a slab. -/
theorem outv_apply (c : Dev nD) (a : Fin 32) (b : Fin 512) :
    outv I c (ix2 a b) = normAt (fun k => ySum I c (ix2 a k)) (fun k => I.gam c (ix1 k)) b := by
  have e : outv I c = k0_pay20 (ySum I c)
      (multiReduction .add [1] S32 (mulf (ySum I c) (ySum I c)) 0x00000000#32 reduces_S32x512_S32 (.inl rfl) rfl) (I.gam c) := rfl
  rw [e, pay20_apply, pay19_apply]
  rfl

end Kernel

/-! ## The reference's text -/

section Reference
open Cert.ReferenceIdeal Cert.ReferenceIdeal.Gen

/-- The sum over the devices and the residual. -/
def refSum (X : S16x512x512.Idx → Ideal .f32) (R : S512x512.Idx → Ideal .f32) : FVec Ideal S512x512 .f32 :=
  addf (Host.reduceAdd X (constant S_ .f32 0x00000000#32) reducesTo_S16x512x512_S512x512_d0 h_S_) R

/-- The reference's result. -/
def refOut (X : S16x512x512.Idx → Ideal .f32) (R : S512x512.Idx → Ideal .f32) (G : S512.Idx → Ideal .f32) : FVec Ideal S512x512 .f32 :=
  mulf (Host.divf (refSum X R) (broadcastInDim S512x512 ![0, 1] bcast_S512x1_S512x512_0_1 (Host.sqrt (addf (Host.divf (broadcastInDim S512x1 ![0] bcast_S512_S512x1_0
      (Host.reduceAdd (mulf (refSum X R) (refSum X R)) (constant S_ .f32 0x00000000#32) reducesTo_S512x512_S512_d1 h_S_))
      (broadcastInDim S512x1 ![] bcast_S_S512x1 (constant S_ .f32 0x44000000#32))) (broadcastInDim S512x1 ![] bcast_S_S512x1 (constant S_ .f32 0x358637BD#32))))))
    (broadcastInDim S512x512 ![0, 1] bcast_S1x512_S512x512_0_1 (broadcastInDim S1x512 ![1] bcast_S512_S1x512_1 G))

theorem refSum_apply (X : S16x512x512.Idx → Ideal .f32) (R : S512x512.Idx → Ideal .f32) (r b : Fin 512) :
    refSum X R (ix2 r b) = ((∑ d : Fin 16, (X (ix3 d r b) : EReal)) + R (ix2 r b) : EReal) := by
  pointwise [refSum]

theorem refOut_apply (X : S16x512x512.Idx → Ideal .f32) (R : S512x512.Idx → Ideal .f32) (G : S512.Idx → Ideal .f32) (r b : Fin 512) :
    refOut X R G (ix2 r b) = normAt (fun k => refSum X R (ix2 r k)) (fun k => G (ix1 k)) b := by
  unfold normAt
  pointwise [refOut]

end Reference

end Cert.AllReduce
-- ==== Proof.Rules.lean ====
/-
# One rule per kind of step

For every kind of step of the short program: what it takes and what it leaves. The loops over lists of channels follow
by induction on the list.
-/
module

public import proofs.«01_k».proof.Proof.Sched
public import Idealize.ShloMosaic.Lib.Tactic

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev WP (c : Dev nD) (p : Pg F) (Q : PUnit → sProp 𝕄) : sProp 𝕄 :=
  wp frame (wpE (defs₀ (F := F)) 𝒱₀ (c : Thread nD τ) none) Set.univ p Q

/-! ## What goes with a channel -/

/-- What a device owes, at some record of its waits. -/
def owesE (c : Dev nD) (O : CellTallies nD τ sig Unit) : sProp 𝕄 := iprop(∃ W : Waits sig Unit, owes (c : Thread nD τ) O W)

variable (I : Ins F) (K : Dev nD × Cx → ℕ)

/-- The standing facts of the whole run. -/
def ctx : sProp 𝕄 := iprop(records I K ∗ levAts L lv)
instance ctx_persistent : BI.Persistent (ctx I K) := by unfold ctx; infer_instance

theorem ctx_records : ctx I K ⊢ records I K := by unfold ctx; iintro ⟨H, -⟩; iexact H
theorem ctx_wait (x : Cx) (c : Dev nD) (l : List Ch) (h : ∀ k ∈ l, cxLev x < chLev k) :
    ctx I K ⊢ MayWait (c : Thread nD τ) (csem x) () (owR c l) := by
  unfold ctx
  iintro ⟨-, H⟩
  iapply (mayWait_oR x c l h)
  iexact H

/-- The tokens of a copy of `c` on channel `k`, and the place at its send cell. -/
def TK (k : Ch) (c : Dev nD) : sProp 𝕄 :=
  iprop(dutyTok ER (sCell k c) 0 dd ∗ dutyTok ER (rCell k (peer k c)) 0 dd ∗ atPos ER (sCell k c) 0 ∅ 0)
/-- What a copy takes, -/
def SR (k : Ch) (c : Dev nD) : sProp 𝕄 := iprop(srcRes I k c ∗ dstRes k c ∗ TK k c)
/-- what it leaves until it has been waited for, -/
def SS (k : Ch) (c : Dev nD) : sProp 𝕄 := iprop(cred (tallyAt (sCell k c) () N) ∗ atPos ER (sCell k c) 0 ∅ 0)
/-- and what that wait leaves. -/
def SD (k : Ch) (c : Dev nD) : sProp 𝕄 := iprop(srcRes I k c ∗ semVal (sCell k c) 0)
/-- The same for what arrives: before its wait, -/
def RR (k : Ch) (c : Dev nD) : sProp 𝕄 := iprop(cred (tallyAt (rCell k c) () N) ∗ atPos ER (rCell k c) 0 ∅ 0)
/-- and after it. -/
def RD (k : Ch) (c : Dev nD) : sProp 𝕄 := iprop(rPay I k c ∗ semVal (rCell k c) 0)

/-! ## The steps -/

theorem rule_send (k : Ch) (c : Dev nD) (l : List Ch) (Kt : Pg F) (Q : PUnit → sProp 𝕄) :
    iprop(ctx I K ∗ owesE c (owR c (k :: l)) ∗ SR I k c ∗ (owesE c (owR c l) ∗ SS k c -∗ WP c Kt Q)) ⊢ WP c (opSend k c Kt) Q := by
  unfold SR TK srcRes dstRes owesE own owns
  iintro ⟨#Hctx, ⟨%W, Ho⟩, ⟨⟨%fs, %hs, Hs⟩, ⟨%v, %fd, %hd, Hd⟩, Ht1, Ht2, Hat⟩, Hk⟩
  ihave #Hrec := (ctx_records I K) $$ Hctx
  ihave #HI1 := (inv_at I K (.inr (.inl k)) c) $$ Hrec
  ihave #HI2 := (inv_at I K (.inr (.inr k)) (peer k c)) $$ Hrec
  ihave #HR1 := (reached_at I K (.inr (.inl k)) c) $$ Hrec
  ihave #HR2 := (reached_at I K (.inr (.inr k)) (peer k c)) $$ Hrec
  unfold opSend
  iapply (Rounds.wp_send_pointsTo 𝒱₀ ER (Rd I) (c : Thread nD τ) none (κ₁ := K (c, .inr (.inl k))) (κ₂ := K (peer k c, .inr (.inr k)))
    (r₁ := 0) (r₂ := 0) (d₁ := dd) (d₂ := dd) (fd := fd) (fs := fs) (q := shr k)
    (by rw [duties_send]; exact Finset.mem_singleton_self _) (by rw [duties_recv]; exact Finset.mem_singleton_self _)
    () () N (by exact credit_dst k c) (amount_send I k c dd) (amount_recv I k (peer k c) dd) (owR c l) rfl (W := W)
    (by
      rw [payload_send]; unfold srcRes own owns
      iintro H; iexists fs; isplitr
      · ipureintro; exact hs
      · iexact H)
    (by
      rw [payload_recv]; unfold rPay own owns
      rw [orig_peer]
      iintro H; iexists _; isplitr
      rotate_left
      · iexact H
      · ipureintro; rw [View.read_write_univ]; exact hs)) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact HR1
    isplitl [Ht2]; · iexact Ht2
    iexact HR2
  iintro ⟨Hc, Ho⟩
  iapply Hk
  isplitl [Ho]
  · iexists W; iexact Ho
  · unfold SS
    isplitl [Hc]; · iexact Hc
    iexact Hat

theorem rule_recv (k : Ch) (c : Dev nD) (l : List Ch) (h : ∀ k' ∈ l, chLev k < chLev k') (Kt : Pg F) (Q : PUnit → sProp 𝕄) :
    iprop(ctx I K ∗ owesE c (owR c l) ∗ RR k c ∗ (owesE c (owR c l) ∗ RD I k c -∗ WP c Kt Q)) ⊢ WP c (opRecv k c Kt) Q := by
  unfold RR owesE
  iintro ⟨#Hctx, ⟨%W, Ho⟩, ⟨Hc, Hat⟩, Hk⟩
  ihave #Hrec := (ctx_records I K) $$ Hctx
  ihave #HI := (inv_at I K (.inr (.inr k)) c) $$ Hrec
  unfold opRecv
  iapply (Rounds.wp_wait_rest_token 𝒱₀ ER (Rd I) (c : Thread nD τ) none (κ := K (c, .inr (.inr k)))
      (wpE_waitDma2_eq 𝒱₀ (c : Thread nD τ) none Set.univ) (Set.mem_univ _) () (O := owR c l) (W := W) (R := 0) (m := 0) (T := ∅)
      (by rw [Nat.zero_add, expect_recv])) $$ [Hc Ho Hat]
  · isplitr; · iexact HI
    isplitl [Hc]; · rw [credit_dst k c]; iexact Hc
    isplitl [Ho]; · iexact Ho
    isplitr; · iapply (ctx_wait I K (.inr (.inr k)) c l h); iexact Hctx
    iexact Hat
  iintro ⟨Ho, Hat, -, Hpay⟩
  ihave Hp := (Entails.of_eq (rest_recv I k c)) $$ Hpay
  ihave Hz := (Rounds.cell_close ER (Rd I) (Set.mem_univ (K (c, .inr (.inr k)))) (fun h => h) (R := 0 + 1) (duties_later I (rCell k c))) $$ [Hat]
  · isplitr; · iexact HI
    iexact Hat
  iapply fupd_wp
  imod Hz with Hz
  imodintro
  iapply Hk
  isplitl [Ho]
  · iexists _; iexact Ho
  · unfold RD
    isplitl [Hp]; · iexact Hp
    iexact Hz

theorem rule_sent (k : Ch) (c : Dev nD) (Kt : Pg F) (Q : PUnit → sProp 𝕄) :
    iprop(ctx I K ∗ owesE c 0 ∗ SS k c ∗ (owesE c 0 ∗ SD I k c -∗ WP c Kt Q)) ⊢ WP c (opSent k c Kt) Q := by
  unfold SS owesE
  iintro ⟨#Hctx, ⟨%W, Ho⟩, ⟨Hc, Hat⟩, Hk⟩
  ihave #Hrec := (ctx_records I K) $$ Hctx
  ihave #HI := (inv_at I K (.inr (.inl k)) c) $$ Hrec
  unfold opSent
  iapply (Rounds.wp_wait_rest_token 𝒱₀ ER (Rd I) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add, expect_send])) $$ [Hc Ho Hat]
  · isplitr; · iexact HI
    isplitl [Hc]; · rw [credit_src k c]; iexact Hc
    isplitl [Ho]; · iexact Ho
    isplitr; · rw [MayWait_zero]; iempintro
    iexact Hat
  iintro ⟨Ho, Hat, -, Hpay⟩
  ihave Hp := (Entails.of_eq (rest_send I k c)) $$ Hpay
  ihave Hz := (Rounds.cell_close ER (Rd I) (Set.mem_univ (K (c, .inr (.inl k)))) (fun h => h) (R := 0 + 1) (duties_later I (sCell k c))) $$ [Hat]
  · isplitr; · iexact HI
    iexact Hat
  iapply fupd_wp
  imod Hz with Hz
  imodintro
  iapply Hk
  isplitl [Ho]
  · iexists _; iexact Ho
  · unfold SD
    isplitl [Hp]; · iexact Hp
    iexact Hz

/-- A neighbour's signal hands over what it will write on `c`. -/
def BR (b : Nb) (c : Dev nD) : sProp 𝕄 := iprop(dutyTok ER (bCell (nb b c)) 0 (nrev b) ∗ get (nrev b) (nb b c))

theorem rule_signal (b : Nb) (c : Dev nD) (l : List Ch) (l' : List Nb) (Kt : Pg F) (Q : PUnit → sProp 𝕄) :
    iprop(ctx I K ∗ owesE c (owB c l (b :: l')) ∗ BR b c ∗ (owesE c (owB c l l') -∗ WP c Kt Q)) ⊢ WP c (opSignal b c Kt) Q := by
  unfold BR owesE
  iintro ⟨#Hctx, ⟨%W, Ho⟩, ⟨Ht, Hg⟩, Hk⟩
  ihave #Hrec := (ctx_records I K) $$ Hctx
  ihave #HI := (inv_at I K (.inl ()) (nb b c)) $$ Hrec
  ihave #HR := (reached_at I K (.inl ()) (nb b c)) $$ Hrec
  unfold opSignal
  iapply (Rounds.wp_signal 𝒱₀ ER (Rd I) (c : Thread nD τ) none (dst := (nb b c : Thread nD τ)) (κ := K (nb b c, .inl ()))
      (d := nrev b) (by rw [duties_bar]; exact Finset.mem_univ _) ((amount_bar I (nb b c) (nrev b)).trans (by decide)) () (owB c l l') rfl)
    $$ [Ho Ht Hg]
  · isplitr; · iexact HI
    isplitl [Ho]; · iexact Ho
    isplitl [Ht]; · iexact Ht
    isplitl [Hg]; · rw [payload_bar]; iexact Hg
    iexact HR
  iintro Ho
  iapply Hk
  iexists W; iexact Ho

theorem rule_meet (c : Dev nD) (l : List Ch) (Kt : Pg F) (Q : PUnit → sProp 𝕄) :
    iprop(ctx I K ∗ owesE c (owR c l) ∗ (cred (tallyAt (bCell c) () 6) ∗ atPos ER (bCell c) 0 ∅ 0)
        ∗ (owesE c (owR c l) ∗ (bigSep Finset.univ fun b => get b c) ∗ semVal (bCell c) 0 -∗ WP c Kt Q)) ⊢ WP c (opMeet Kt) Q := by
  unfold owesE
  iintro ⟨#Hctx, ⟨%W, Ho⟩, ⟨Hc, Hat⟩, Hk⟩
  ihave #Hrec := (ctx_records I K) $$ Hctx
  ihave #HI := (inv_at I K (.inl ()) c) $$ Hrec
  unfold opMeet
  iapply (Rounds.wp_wait_rest_token 𝒱₀ ER (Rd I) (c : Thread nD τ) none (κ := K (c, .inl ()))
      (wpE_semWait_eq 𝒱₀ (c : Thread nD τ) none Set.univ) (Set.mem_univ _) () (O := owR c l) (W := W) (R := 0) (m := 0) (T := ∅)
      (by rw [expect_bar]; decide)) $$ [Hc Ho Hat]
  · isplitr; · iexact HI
    isplitl [Hc]; · iexact Hc
    isplitl [Ho]; · iexact Ho
    isplitr; · iapply (ctx_wait I K (.inl ()) c l fun k _ => chLev_pos k); iexact Hctx
    iexact Hat
  iintro ⟨Ho, Hat, -, Hpay⟩
  ihave Hp := (Entails.of_eq (rest_bar I c)) $$ Hpay
  ihave Hz := (Rounds.cell_close ER (Rd I) (Set.mem_univ (K (c, .inl ()))) (fun h => h) (R := 0 + 1) (duties_later I (bCell c))) $$ [Hat]
  · isplitr; · iexact HI
    iexact Hat
  iapply fupd_wp
  imod Hz with Hz
  imodintro
  iapply Hk
  isplitl [Ho]
  · iexists _; iexact Ho
  · isplitl [Hp]; · iexact Hp
    iexact Hz

/-! ## The loops -/

theorem rule_sends (l : List Ch) (c : Dev nD) (l' : List Ch) (Kt : Pg F) (Q : PUnit → sProp 𝕄) :
    iprop(ctx I K ∗ owesE c (owR c (l ++ l')) ∗ sepL l (fun k => SR I k c) ∗ (owesE c (owR c l') ∗ sepL l (fun k => SS k c) -∗ WP c Kt Q))
      ⊢ WP c (sends l c Kt) Q := by
  induction l with
  | nil =>
    iintro ⟨-, Ho, -, Hk⟩
    iapply Hk
    isplitl [Ho]; · iexact Ho
    unfold sepL; iempintro
  | cons k l ih =>
    unfold sepL sends
    iintro ⟨#Hctx, Ho, ⟨H1, H2⟩, Hk⟩
    iapply (rule_send I K k c (l ++ l') (sends l c Kt) Q)
    isplitr; · iexact Hctx
    isplitl [Ho]; · iexact Ho
    isplitl [H1]; · iexact H1
    iintro ⟨Ho, H1⟩
    iapply ih
    isplitr; · iexact Hctx
    isplitl [Ho]; · iexact Ho
    isplitl [H2]; · iexact H2
    iintro ⟨Ho, H2⟩
    iapply Hk
    isplitl [Ho]; · iexact Ho
    isplitl [H1]; · iexact H1
    iexact H2

theorem rule_recvs (l : List Ch) (c : Dev nD) (l' : List Ch) (h : ∀ k ∈ l, ∀ k' ∈ l', chLev k < chLev k') (Kt : Pg F) (Q : PUnit → sProp 𝕄) :
    iprop(ctx I K ∗ owesE c (owR c l') ∗ sepL l (fun k => RR k c) ∗ (owesE c (owR c l') ∗ sepL l (fun k => RD I k c) -∗ WP c Kt Q))
      ⊢ WP c (recvs l c Kt) Q := by
  induction l with
  | nil =>
    iintro ⟨-, Ho, -, Hk⟩
    iapply Hk
    isplitl [Ho]; · iexact Ho
    unfold sepL; iempintro
  | cons k l ih =>
    unfold sepL recvs
    iintro ⟨#Hctx, Ho, ⟨H1, H2⟩, Hk⟩
    iapply (rule_recv I K k c l' (h k List.mem_cons_self) (recvs l c Kt) Q)
    isplitr; · iexact Hctx
    isplitl [Ho]; · iexact Ho
    isplitl [H1]; · iexact H1
    iintro ⟨Ho, H1⟩
    iapply (ih fun k hk => h k (List.mem_cons_of_mem _ hk))
    isplitr; · iexact Hctx
    isplitl [Ho]; · iexact Ho
    isplitl [H2]; · iexact H2
    iintro ⟨Ho, H2⟩
    iapply Hk
    isplitl [Ho]; · iexact Ho
    isplitl [H1]; · iexact H1
    iexact H2

theorem rule_sents (l : List Ch) (c : Dev nD) (Kt : Pg F) (Q : PUnit → sProp 𝕄) :
    iprop(ctx I K ∗ owesE c 0 ∗ sepL l (fun k => SS k c) ∗ (owesE c 0 ∗ sepL l (fun k => SD I k c) -∗ WP c Kt Q))
      ⊢ WP c (sents l c Kt) Q := by
  induction l with
  | nil =>
    iintro ⟨-, Ho, -, Hk⟩
    iapply Hk
    isplitl [Ho]; · iexact Ho
    unfold sepL; iempintro
  | cons k l ih =>
    unfold sepL sents
    iintro ⟨#Hctx, Ho, ⟨H1, H2⟩, Hk⟩
    iapply (rule_sent I K k c (sents l c Kt) Q)
    isplitr; · iexact Hctx
    isplitl [Ho]; · iexact Ho
    isplitl [H1]; · iexact H1
    iintro ⟨Ho, H1⟩
    iapply ih
    isplitr; · iexact Hctx
    isplitl [Ho]; · iexact Ho
    isplitl [H2]; · iexact H2
    iintro ⟨Ho, H2⟩
    iapply Hk
    isplitl [Ho]; · iexact Ho
    isplitl [H1]; · iexact H1
    iexact H2

theorem rule_signals (l : List Nb) (c : Dev nD) (l' : List Ch) (Kt : Pg F) (Q : PUnit → sProp 𝕄) :
    iprop(ctx I K ∗ owesE c (owB c l' l) ∗ sepL l (fun b => BR b c) ∗ (owesE c (owR c l') -∗ WP c Kt Q))
      ⊢ WP c (signals l c Kt) Q := by
  induction l with
  | nil =>
    iintro ⟨-, Ho, -, Hk⟩
    iapply Hk
    iexact Ho
  | cons b l ih =>
    unfold sepL signals
    iintro ⟨#Hctx, Ho, ⟨H1, H2⟩, Hk⟩
    iapply (rule_signal I K b c l' l (signals l c Kt) Q)
    isplitr; · iexact Hctx
    isplitl [Ho]; · iexact Ho
    isplitl [H1]; · iexact H1
    iintro Ho
    iapply ih
    isplitr; · iexact Hctx
    isplitl [Ho]; · iexact Ho
    isplitl [H2]; · iexact H2
    iexact Hk

end Cert.AllReduce
-- ==== Proof.Body.lean ====
/-
# The kernel's run on one device

The sum of a block, the norm of a block, the loops over the columns, then the whole program: from what a device starts
with to what it ends with.
-/
module

public import proofs.«01_k».proof.Proof.Rules

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × Cx → ℕ)

/-! ## One block -/

/-- The device's own part of the slab `j` places on. -/
def XO (j : Fin 4) (c : Dev nD) : sProp 𝕄 := own c (xS (slabF j c)) fullShare (xB (I.x c) (slabF j c))

theorem rPay_p1 (d : Fin 3) (j : Fin 4) (c : Dev nD) : rPay I (p1 d j) c = own c (b1S d j) fullShare (p1v I d j c) := by
  unfold rPay; rw [val_p1]; rfl
theorem rPay_p2 (j : Fin 3) (c : Dev nD) : rPay I (p2 j) c = own c (b2S j) fullShare (p2v I j c) := rfl

theorem rule_four (j : Fin 4) (c : Dev nD)
    (Kt : Vec F S1x32x512 .f32 → Vec F S1x1x32x512 .f32 → Vec F S1x1x32x512 .f32 → Vec F S1x1x32x512 .f32 → Pg F) (Q : PUnit → sProp 𝕄) :
    iprop((XO I j c ∗ rPay I (p1 0 j) c ∗ rPay I (p1 1 j) c ∗ rPay I (p1 2 j) c)
        ∗ (XO I j c ∗ rPay I (p1 0 j) c ∗ rPay I (p1 1 j) c ∗ rPay I (p1 2 j) c
          -∗ WP c (Kt (unsq squeezes_S1x32x512_S32x512 (xB (I.x c) (slabF j c))) (unsq squeezes_S1x1x32x512_S32x512 (p1v I 0 j c))
            (unsq squeezes_S1x1x32x512_S32x512 (p1v I 1 j c)) (unsq squeezes_S1x1x32x512_S32x512 (p1v I 2 j c))) Q))
      ⊢ WP c (opFour j c Kt) Q := by
  rw [rPay_p1, rPay_p1, rPay_p1]
  unfold XO opFour
  iintro ⟨⟨Hx, H0, H1, H2⟩, Hk⟩
  iapply (wp_load_blk 𝒱₀ c xM (xR (slabF j c)) (fun _ => rfl) squeezes_S1x32x512_S32x512) $$ Hx
  iintro Hx
  iapply (wp_load_blk 𝒱₀ c b1W (b1R (0, j)) (fun _ => rfl) squeezes_S1x1x32x512_S32x512) $$ H0
  iintro H0
  iapply (wp_load_blk 𝒱₀ c b1W (b1R (1, j)) (fun _ => rfl) squeezes_S1x1x32x512_S32x512) $$ H1
  iintro H1
  iapply (wp_load_blk 𝒱₀ c b1W (b1R (2, j)) (fun _ => rfl) squeezes_S1x1x32x512_S32x512) $$ H2
  iintro H2
  iapply Hk
  isplitl [Hx]; · iexact Hx
  isplitl [H0]; · iexact H0
  isplitl [H1]; · iexact H1
  iexact H2

theorem rule_sum (j : Fin 3) (c : Dev nD) (Kt : Pg F) (Q : PUnit → sProp 𝕄) :
    iprop((XO I j.succ c ∗ rPay I (p1 0 j.succ) c ∗ rPay I (p1 1 j.succ) c ∗ rPay I (p1 2 j.succ) c) ∗ (∃ v : Blk F, own c (zS j) fullShare v)
        ∗ ((XO I j.succ c ∗ rPay I (p1 0 j.succ) c ∗ rPay I (p1 1 j.succ) c ∗ rPay I (p1 2 j.succ) c) ∗ srcRes I (p2 j) c -∗ WP c Kt Q))
      ⊢ WP c (opSum j c Kt) Q := by
  unfold opSum
  iintro ⟨H, ⟨%v, Hz⟩, Hk⟩
  iapply (rule_four I j.succ c _ Q)
  isplitl [H]; · iexact H
  iintro H
  iapply (wp_load_blk 𝒱₀ c zW (zR j) (fun _ => rfl) squeezes_S1x32x512_S32x512) $$ Hz
  iintro Hz
  iapply (wp_store_blk 𝒱₀ c zW (zR j) (fun _ => rfl) squeezes_S1x32x512_S32x512) $$ Hz
  iintro Hz
  iapply Hk
  isplitl [H]; · iexact H
  unfold srcRes
  rw [pay1_blk]
  iexact Hz

theorem rule_col (j : Fin 3) (c : Dev nD) (l : List Ch) (h : ∀ k' ∈ l, 3 < chLev k') (Kt : Vec F S1x32x512 .f32 → Pg F) (Q : PUnit → sProp 𝕄) :
    iprop(ctx I K ∗ owesE c (owR c l) ∗ RR (p2 j) c
        ∗ (owesE c (owR c l) ∗ RD I (p2 j) c -∗ WP c (Kt (unsq squeezes_S1x32x512_S32x512 (p2v I j c))) Q)) ⊢ WP c (opCol j c Kt) Q := by
  unfold opCol
  iintro ⟨#Hctx, Ho, Hr, Hk⟩
  iapply (rule_recv I K (p2 j) c l h _ Q)
  isplitr; · iexact Hctx
  isplitl [Ho]; · iexact Ho
  isplitl [Hr]; · iexact Hr
  unfold RD
  rw [rPay_p2]
  iintro ⟨Ho, Hr, Hz⟩
  iapply (wp_load_blk 𝒱₀ c b2W (zR j) (fun _ => rfl) squeezes_S1x32x512_S32x512) $$ Hr
  iintro Hr
  iapply Hk
  isplitl [Ho]; · iexact Ho
  isplitl [Hr]; · iexact Hr
  iexact Hz

/-! ## The columns -/

theorem RD3 (j : Fin 4) (c : Dev nD) : sepL (p1s j) (fun k => RD I k c)
    = iprop((rPay I (p1 0 j) c ∗ semVal (rCell (p1 0 j) c) 0) ∗ (rPay I (p1 1 j) c ∗ semVal (rCell (p1 1 j) c) 0)
      ∗ (rPay I (p1 2 j) c ∗ semVal (rCell (p1 2 j) c) 0) ∗ emp) := rfl

/-- What a column's reduction takes, -/
def colIn (j : Fin 3) (c : Dev nD) : sProp 𝕄 :=
  iprop(sepL (p1s j.succ) (fun k => RR k c) ∗ XO I j.succ c ∗ (∃ v : Blk F, own c (zS j) fullShare v) ∗ dstRes (p2 j) c ∗ TK (p2 j) c)
/-- and what it leaves. -/
def colOut (j : Fin 3) (c : Dev nD) : sProp 𝕄 :=
  iprop(sepL (p1s j.succ) (fun k => RD I k c) ∗ XO I j.succ c ∗ SS (p2 j) c)

theorem rule_reduceCols (l : List (Fin 3)) (c : Dev nD) (l' : List Ch) (h : ∀ k' ∈ l', 3 < chLev k') (Kt : Pg F) (Q : PUnit → sProp 𝕄) :
    iprop(ctx I K ∗ owesE c (owR c (l.map p2 ++ l')) ∗ sepL l (fun j => colIn I j c)
        ∗ (owesE c (owR c l') ∗ sepL l (fun j => colOut I j c) -∗ WP c Kt Q)) ⊢ WP c (reduceCols l c Kt) Q := by
  induction l with
  | nil =>
    iintro ⟨-, Ho, -, Hk⟩
    iapply Hk
    isplitl [Ho]; · iexact Ho
    unfold sepL; iempintro
  | cons j l ih =>
    rw [show sepL (j :: l) (fun j => colIn I j c) = iprop(colIn I j c ∗ sepL l (fun j => colIn I j c)) from rfl,
      show sepL (j :: l) (fun j => colOut I j c) = iprop(colOut I j c ∗ sepL l (fun j => colOut I j c)) from rfl]
    unfold reduceCols
    iintro ⟨#Hctx, Ho, ⟨H, H2⟩, Hk⟩
    unfold colIn
    icases H with ⟨Hr, Hx, Hz, Hd, Ht⟩
    iapply (rule_recvs I K (p1s j.succ) c ((j :: l).map p2 ++ l') (by
      intro k hk k' hk'
      have e : chLev k = 2 := by
        simp only [List.mem_cons, List.not_mem_nil, or_false] at hk
        rcases hk with rfl | rfl | rfl <;> rfl
      rw [e]
      rcases List.mem_append.mp hk' with hm | hm
      · obtain ⟨i, -, rfl⟩ := List.mem_map.mp hm; exact Nat.lt_succ_self 2
      · exact Nat.lt_of_succ_lt (h k' hm)) _ Q)
    isplitr; · iexact Hctx
    isplitl [Ho]; · iexact Ho
    isplitl [Hr]; · iexact Hr
    iintro ⟨Ho, H⟩
    ihave H' := (Entails.of_eq (RD3 I j.succ c)) $$ H
    icases H' with ⟨⟨Hp0, Hz0⟩, ⟨Hp1, Hz1⟩, ⟨Hp2, Hz2⟩, -⟩
    iapply (rule_sum I j c _ Q)
    isplitl [Hx Hp0 Hp1 Hp2]
    · isplitl [Hx]; · iexact Hx
      isplitl [Hp0]; · iexact Hp0
      isplitl [Hp1]; · iexact Hp1
      iexact Hp2
    isplitl [Hz]; · iexact Hz
    iintro ⟨⟨Hx, Hp0, Hp1, Hp2⟩, Hs⟩
    iapply (rule_send I K (p2 j) c (l.map p2 ++ l') _ Q)
    isplitr; · iexact Hctx
    isplitl [Ho]; · iexact Ho
    isplitl [Hs Hd Ht]
    · unfold SR
      isplitl [Hs]; · iexact Hs
      isplitl [Hd]; · iexact Hd
      iexact Ht
    iintro ⟨Ho, Hss⟩
    iapply ih
    isplitr; · iexact Hctx
    isplitl [Ho]; · iexact Ho
    isplitl [H2]; · iexact H2
    iintro ⟨Ho, H2⟩
    iapply Hk
    isplitl [Ho]; · iexact Ho
    isplitr [H2]
    · unfold colOut
      rw [RD3]
      isplitl [Hp0 Hz0 Hp1 Hz1 Hp2 Hz2]
      · isplitl [Hp0 Hz0]
        · isplitl [Hp0] <;> iassumption
        isplitl [Hp1 Hz1]
        · isplitl [Hp1] <;> iassumption
        isplitl [Hp2 Hz2]
        · isplitl [Hp2] <;> iassumption
        iempintro
      isplitl [Hx]; · iexact Hx
      iexact Hss
    · iexact H2

/-! ## The norm -/

theorem gam_load (X : S512.Idx → Elt F .f32) : (fun i => X (gR.emb i)) = X := by
  funext i
  congr 1
  funext a
  apply Fin.ext
  show (![0] : Fin 1 → ℕ) a + 1 * (i a).val = (i a).val
  have h : a = 0 := Subsingleton.elim _ _
  subst h
  simp

def normIn (c : Dev nD) : sProp 𝕄 :=
  iprop(sepL (p1s 0) (fun k => RR k c) ∗ XO I 0 c ∗ (RR (p2 0) c ∗ RR (p2 1) c ∗ RR (p2 2) c)
    ∗ own c resM fullShare (I.res c) ∗ own c gamM fullShare (I.gam c) ∗ ∃ v : Blk F, own c (oS (slab c)) fullShare v)
def normOut (c : Dev nD) : sProp 𝕄 :=
  iprop(sepL (p1s 0) (fun k => RD I k c) ∗ XO I 0 c ∗ (RD I (p2 0) c ∗ RD I (p2 1) c ∗ RD I (p2 2) c)
    ∗ own c resM fullShare (I.res c) ∗ own c gamM fullShare (I.gam c) ∗ own c (oS (slab c)) fullShare (outv I c))

theorem rule_norm (c : Dev nD) (l : List Ch) (h : ∀ k' ∈ l, 3 < chLev k') (Kt : Pg F) (Q : PUnit → sProp 𝕄) :
    iprop(ctx I K ∗ owesE c (owR c l) ∗ normIn I c ∗ (owesE c (owR c l) ∗ normOut I c -∗ WP c Kt Q)) ⊢ WP c (opNorm c Kt) Q := by
  unfold opNorm normIn
  iintro ⟨#Hctx, Ho, ⟨Hr, Hx, ⟨Hr0, Hr1, Hr2⟩, Hres, Hgam, ⟨%v, Hout⟩⟩, Hk⟩
  iapply (rule_recvs I K (p1s 0) c l (by
    intro k hk k' hk'
    have e : chLev k = 2 := by
      simp only [List.mem_cons, List.not_mem_nil, or_false] at hk
      rcases hk with rfl | rfl | rfl <;> rfl
    rw [e]; exact Nat.lt_of_succ_lt (h k' hk')) _ Q)
  isplitr; · iexact Hctx
  isplitl [Ho]; · iexact Ho
  isplitl [Hr]; · iexact Hr
  iintro ⟨Ho, H⟩
  ihave H' := (Entails.of_eq (RD3 I 0 c)) $$ H
  icases H' with ⟨⟨Hp0, Hz0⟩, ⟨Hp1, Hz1⟩, ⟨Hp2, Hz2⟩, -⟩
  iapply (rule_four I 0 c _ Q)
  isplitl [Hx Hp0 Hp1 Hp2]
  · isplitl [Hx]; · iexact Hx
    isplitl [Hp0]; · iexact Hp0
    isplitl [Hp1]; · iexact Hp1
    iexact Hp2
  iintro ⟨Hx, Hp0, Hp1, Hp2⟩
  iapply (rule_col I K 0 c l h _ Q)
  isplitr; · iexact Hctx
  isplitl [Ho]; · iexact Ho
  isplitl [Hr0]; · iexact Hr0
  iintro ⟨Ho, Hr0⟩
  iapply (rule_col I K 1 c l h _ Q)
  isplitr; · iexact Hctx
  isplitl [Ho]; · iexact Ho
  isplitl [Hr1]; · iexact Hr1
  iintro ⟨Ho, Hr1⟩
  iapply (rule_col I K 2 c l h _ Q)
  isplitr; · iexact Hctx
  isplitl [Ho]; · iexact Ho
  isplitl [Hr2]; · iexact Hr2
  iintro ⟨Ho, Hr2⟩
  iapply (wp_load_part 𝒱₀ c resM (oR (slab c))) $$ Hres
  iintro Hres
  iapply (wp_load_part 𝒱₀ c gamM gR) $$ Hgam
  iintro Hgam
  rw [gam_load]
  iapply (wp_load_slice 𝒱₀ c outM (oR (slab c)) (fun _ => rfl)) $$ Hout
  iintro Hout
  iapply (wp_store_slice 𝒱₀ c outM (oR (slab c)) (fun _ => rfl)) $$ Hout
  iintro Hout
  iapply Hk
  unfold normOut
  rw [RD3]
  isplitl [Ho]; · iexact Ho
  isplitl [Hp0 Hz0 Hp1 Hz1 Hp2 Hz2]
  · isplitl [Hp0 Hz0]
    · isplitl [Hp0] <;> iassumption
    isplitl [Hp1 Hz1]
    · isplitl [Hp1] <;> iassumption
    isplitl [Hp2 Hz2]
    · isplitl [Hp2] <;> iassumption
    iempintro
  isplitl [Hx]; · iexact Hx
  isplitl [Hr0 Hr1 Hr2]
  · isplitl [Hr0]; · iexact Hr0
    isplitl [Hr1]; · iexact Hr1
    iexact Hr2
  isplitl [Hres]; · iexact Hres
  isplitl [Hgam]; · iexact Hgam
  iexact Hout

/-! ## Passing on -/

/-- The landing place and the tokens of a copy, its source yet to come. -/
def DT (k : Ch) (c : Dev nD) : sProp 𝕄 := iprop(dstRes k c ∗ TK k c)

theorem src_p3 (c : Dev nD) :
    (own c (oS (slab c)) fullShare (outv I c) : sProp 𝕄)
      = iprop((srcRes I (p3 0) c ∗ srcRes I (p3 1) c ∗ srcRes I (p3 2) c) ∗ srcRes I (p4 0 0) c ∗ srcRes I (p4 1 0) c ∗ srcRes I (p4 2 0) c) := by
  have h (d : Fin 3) : srcRes I (p4 d 0) c = own c (oS (slab c)) (sh3 (fullShare : PosShare TreeShare).right d) (outv I c) := by
    show own c (oS (slab (zb 0 c))) (shr (p4 d 0)) (outv I (zb 0 c)) = _
    rw [zb_zero]; rfl
  rw [h, h, h, own_two c _ fullShare, own_three c _ (fullShare : PosShare TreeShare).left, own_three c _ (fullShare : PosShare TreeShare).right]
  rfl
theorem src_p4 (j : Fin 3) (c : Dev nD) :
    rPay I (p3 j) c = iprop(srcRes I (p4 0 j.succ) c ∗ srcRes I (p4 1 j.succ) c ∗ srcRes I (p4 2 j.succ) c) := by
  have h (d : Fin 3) : srcRes I (p4 d j.succ) c = own c (oS (slab (col j.rev c))) (sh3 fullShare d) (outv I (col j.rev c)) := by
    show own c (oS (slab (zb j.succ c))) (shr (p4 d j.succ)) (outv I (zb j.succ c)) = _
    rw [zb_succ]; rfl
  rw [h, h, h]
  show own c (oS (slab (col j.rev c))) fullShare (outv I (col j.rev c)) = _
  rw [own_three]

omit [FloatOps F] in
theorem DT3 (j : Fin 4) (c : Dev nD) : (sepL (p4s j) (fun k => DT k c) : sProp 𝕄)
    = iprop((dstRes (p4 0 j) c ∗ TK (p4 0 j) c) ∗ (dstRes (p4 1 j) c ∗ TK (p4 1 j) c) ∗ (dstRes (p4 2 j) c ∗ TK (p4 2 j) c) ∗ emp) := rfl
theorem SR3 (j : Fin 4) (c : Dev nD) : sepL (p4s j) (fun k => SR I k c)
    = iprop((srcRes I (p4 0 j) c ∗ dstRes (p4 0 j) c ∗ TK (p4 0 j) c) ∗ (srcRes I (p4 1 j) c ∗ dstRes (p4 1 j) c ∗ TK (p4 1 j) c)
      ∗ (srcRes I (p4 2 j) c ∗ dstRes (p4 2 j) c ∗ TK (p4 2 j) c) ∗ emp) := rfl

def passIn (j : Fin 3) (c : Dev nD) : sProp 𝕄 := iprop(RR (p3 j) c ∗ sepL (p4s j.succ) (fun k => DT k c))
def passOut (j : Fin 3) (c : Dev nD) : sProp 𝕄 := iprop(semVal (rCell (p3 j) c) 0 ∗ sepL (p4s j.succ) (fun k => SS k c))

theorem rule_passCols (l : List (Fin 3)) (c : Dev nD) (Kt : Pg F) (Q : PUnit → sProp 𝕄) :
    iprop(ctx I K ∗ owesE c (owR c (l.flatMap fun j => p4s j.succ)) ∗ sepL l (fun j => passIn j c)
        ∗ (owesE c 0 ∗ sepL l (fun j => passOut j c) -∗ WP c Kt Q)) ⊢ WP c (passCols l c Kt) Q := by
  induction l with
  | nil =>
    iintro ⟨-, Ho, -, Hk⟩
    iapply Hk
    isplitl [Ho]; · iexact Ho
    unfold sepL; iempintro
  | cons j l ih =>
    rw [show sepL (j :: l) (fun j => passIn j c) = iprop(passIn j c ∗ sepL l (fun j => passIn (F := F) j c)) from rfl,
      show sepL (j :: l) (fun j => passOut j c) = iprop(passOut j c ∗ sepL l (fun j => passOut (F := F) j c)) from rfl, List.flatMap_cons]
    unfold passCols
    iintro ⟨#Hctx, Ho, ⟨H, H2⟩, Hk⟩
    unfold passIn
    icases H with ⟨Hr, Hd⟩
    iapply (rule_recv I K (p3 j) c (p4s j.succ ++ l.flatMap fun j => p4s j.succ) (by
      intro k' hk'
      have e : chLev k' = 5 := by
        rcases List.mem_append.mp hk' with hm | hm
        · simp only [List.mem_cons, List.not_mem_nil, or_false] at hm
          rcases hm with rfl | rfl | rfl <;> rfl
        · obtain ⟨i, -, hm⟩ := List.mem_flatMap.mp hm
          simp only [List.mem_cons, List.not_mem_nil, or_false] at hm
          rcases hm with rfl | rfl | rfl <;> rfl
      rw [e]; exact Nat.lt_succ_self 4) _ Q)
    isplitr; · iexact Hctx
    isplitl [Ho]; · iexact Ho
    isplitl [Hr]; · iexact Hr
    unfold RD
    rw [src_p4]
    iintro ⟨Ho, ⟨Hs0, Hs1, Hs2⟩, Hz⟩
    ihave Hd' := (Entails.of_eq (DT3 j.succ c)) $$ Hd
    icases Hd' with ⟨⟨Hd0, Ht0⟩, ⟨Hd1, Ht1⟩, ⟨Hd2, Ht2⟩, -⟩
    iapply (rule_sends I K (p4s j.succ) c (l.flatMap fun j => p4s j.succ) _ Q)
    isplitr; · iexact Hctx
    isplitl [Ho]; · iexact Ho
    isplitl [Hs0 Hs1 Hs2 Hd0 Hd1 Hd2 Ht0 Ht1 Ht2]
    · rw [SR3]
      isplitl [Hs0 Hd0 Ht0]
      · isplitl [Hs0]; · iexact Hs0
        isplitl [Hd0] <;> iassumption
      isplitl [Hs1 Hd1 Ht1]
      · isplitl [Hs1]; · iexact Hs1
        isplitl [Hd1] <;> iassumption
      isplitl [Hs2 Hd2 Ht2]
      · isplitl [Hs2]; · iexact Hs2
        isplitl [Hd2] <;> iassumption
      iempintro
    iintro ⟨Ho, Hss⟩
    iapply ih
    isplitr; · iexact Hctx
    isplitl [Ho]; · iexact Ho
    isplitl [H2]; · iexact H2
    iintro ⟨Ho, H2⟩
    iapply Hk
    isplitl [Ho]; · iexact Ho
    isplitl [Hz Hss]
    · unfold passOut
      isplitl [Hz]; · iexact Hz
      iexact Hss
    · iexact H2

end Cert.AllReduce
-- ==== Proof.Run.lean ====
/-
# The whole program on one device

What a device starts with and ends with, stated over all channels; the lists below put the same resources in the order
in which the program uses them at this device's place.
-/
module

public import proofs.«01_k».proof.Proof.Body

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The orders -/

/-- First-phase copies in the order they start. -/
def preL (c : Dev nD) : List (Fin 3 × Fin 4) := (farL c).flatMap (fun j => [(0, j.succ), (1, j.succ), (2, j.succ)]) ++ [(0, 0), (1, 0), (2, 0)]
abbrev L1 (c : Dev nD) : List Ch := (farL c).flatMap (fun j => p1s j.succ) ++ p1s 0
abbrev L3 (c : Dev nD) : List Ch := (farL c).map p3 ++ p4s 0
abbrev L4 (c : Dev nD) : List Ch := (nearL c).flatMap fun j => p4s j.succ
/-- All copies in the order they start. -/
def ordL (c : Dev nD) : List Ch := L1 c ++ ((farL c).map p2 ++ (L3 c ++ L4 c))
/-- All arrivals in the order they are waited for. -/
def rcvL (c : Dev nD) : List Ch := (farL c).flatMap (fun j => p1s j.succ) ++ (p1s 0 ++ ([p2 0, p2 1, p2 2] ++ ((nearL c).map p3 ++ endR)))

theorem all_of_univ {T : Type} [DecidableEq T] [Fintype T] {l : List T} (h : l.toFinset = Finset.univ) (t : T) : t ∈ l :=
  List.mem_toFinset.mp (h ▸ Finset.mem_univ t)
theorem preL_nodup (c : Dev nD) : (preL c).Nodup := by revert c; decide +kernel
theorem preL_all (c : Dev nD) : ∀ t, t ∈ preL c := by revert c; decide +kernel
theorem preL_map (c : Dev nD) : (preL c).map (fun t => p1 t.1 t.2) = L1 c := by revert c; decide +kernel
theorem ordL_nodup (c : Dev nD) : (ordL c).Nodup := by revert c; decide +kernel
theorem ordL_all (c : Dev nD) : ∀ k, k ∈ ordL c := all_of_univ (by revert c; decide +kernel)
theorem rcvL_nodup (c : Dev nD) : (rcvL c).Nodup := by revert c; decide +kernel
theorem rcvL_all (c : Dev nD) : ∀ k, k ∈ rcvL c := all_of_univ (by revert c; decide +kernel)
theorem endS_nodup : endS.Nodup := by decide +kernel
theorem endS_all : ∀ k, k ∈ endS := all_of_univ (by decide +kernel)
theorem farL_nodup (c : Dev nD) : (farL c).Nodup := by revert c; decide +kernel
theorem farL_all (c : Dev nD) : ∀ j, j ∈ farL c := by revert c; decide +kernel
theorem nbL_nodup : nbL.Nodup := by decide +kernel
theorem nbL_all : ∀ b, b ∈ nbL := by decide +kernel
theorem nbL_chs_nodup : (nbL.flatMap chs).Nodup := by decide +kernel
theorem nbL_chs_all : ∀ k, k ∈ nbL.flatMap chs := all_of_univ (by decide +kernel)
theorem far4_nodup (c : Dev nD) : ((0 : Fin 4) :: (farL c).map Fin.succ).Nodup := by revert c; decide +kernel
theorem far4_all (c : Dev nD) : ∀ j, j ∈ (0 : Fin 4) :: (farL c).map Fin.succ := by revert c; decide +kernel

section Split

variable (Φ : Ch → sProp (MT nD τ sig Unit (Elt F) ℕ UU ℕ))

omit [FloatOps F] in
theorem ord_split (c : Dev nD) : bigSep Finset.univ Φ
    = iprop(sepL (L1 c) Φ ∗ sepL (farL c) (fun j => Φ (p2 j)) ∗ sepL (L3 c) Φ ∗ sepL (nearL c) fun j => sepL (p4s j.succ) Φ) := by
  rw [sepL_univ (ordL c) (ordL_nodup c) (ordL_all c), ordL, sepL_append (L1 c), sepL_append ((farL c).map p2), sepL_append (L3 c), sepL_map]
  conv_lhs => rw [L4, sepL_flatMap]
omit [FloatOps F] in
theorem rcv_split (c : Dev nD) : bigSep Finset.univ Φ
    = iprop(sepL (farL c) (fun j => sepL (p1s j.succ) Φ) ∗ sepL (p1s 0) Φ ∗ (Φ (p2 0) ∗ Φ (p2 1) ∗ Φ (p2 2) ∗ emp)
      ∗ sepL (nearL c) (fun j => Φ (p3 j)) ∗ sepL endR Φ) := by
  rw [sepL_univ (rcvL c) (rcvL_nodup c) (rcvL_all c), rcvL, sepL_append, sepL_append, sepL_append, sepL_append, sepL_flatMap, sepL_map]
  rfl
omit [FloatOps F] in
theorem pre_split (c : Dev nD) : (bigSep Finset.univ fun t : Fin 3 × Fin 4 => Φ (p1 t.1 t.2)) = sepL (L1 c) Φ := by
  rw [sepL_univ (preL c) (preL_nodup c) (preL_all c), ← preL_map, sepL_map]
omit [FloatOps F] in
theorem four_split (c : Dev nD) (Ψ : Fin 4 → sProp 𝕄) : bigSep Finset.univ Ψ = iprop(Ψ 0 ∗ sepL (farL c) fun j => Ψ j.succ) := by
  rw [sepL_univ _ (far4_nodup c) (far4_all c)]
  show iprop(Ψ 0 ∗ sepL ((farL c).map Fin.succ) Ψ) = _
  rw [sepL_map]
omit [FloatOps F] in
theorem get_all (c : Dev nD) : (bigSep Finset.univ fun b => (get b c : sProp 𝕄)) = bigSep Finset.univ fun k => dstRes k c := by
  rw [sepL_univ nbL nbL_nodup nbL_all, sepL_univ (nbL.flatMap chs) nbL_chs_nodup nbL_chs_all, sepL_flatMap]
  rfl

end Split

variable (I : Ins F) (K : Dev nD × Cx → ℕ)

/-! ## Start and end -/

/-- What the arrival on a channel leaves at the end: the result blocks from the column have been passed on. -/
def RE : Ch → Dev nD → sProp 𝕄
  | p3 j, c => semVal (rCell (p3 j) c) 0
  | p1 d j, c => RD I (p1 d j) c
  | p2 j, c => RD I (p2 j) c
  | p4 d j, c => RD I (p4 d j) c

/-- What a device starts with. -/
def START (c : Dev nD) : sProp 𝕄 :=
  iprop(owesE c (owB c (ordL c) nbL) ∗ (bigSep Finset.univ fun b => BR b c) ∗ (cred (tallyAt (bCell c) () 6) ∗ atPos ER (bCell c) 0 ∅ 0)
    ∗ (bigSep Finset.univ fun k => TK k c) ∗ (bigSep Finset.univ fun k => RR k c)
    ∗ (bigSep Finset.univ fun t : Fin 3 × Fin 4 => srcRes I (p1 t.1 t.2) c) ∗ (bigSep Finset.univ fun j => XO I j c)
    ∗ (bigSep Finset.univ fun j => iprop(∃ v : Blk F, own c (zS j) fullShare v))
    ∗ own c resM fullShare (I.res c) ∗ own c gamM fullShare (I.gam c) ∗ ∃ v : Blk F, own c (oS (slab c)) fullShare v)
/-- What it ends with. -/
def END (c : Dev nD) : sProp 𝕄 :=
  iprop(owesE c 0 ∗ semVal (bCell c) 0 ∗ (bigSep Finset.univ fun k => SD I k c) ∗ (bigSep Finset.univ fun k => RE I k c)
    ∗ (bigSep Finset.univ fun j => XO I j c) ∗ own c resM fullShare (I.res c) ∗ own c gamM fullShare (I.gam c))

theorem start_eq (c : Dev nD) : START I c =
    iprop(owesE c (owB c (ordL c) nbL) ∗ sepL nbL (fun b => BR b c) ∗ (cred (tallyAt (bCell c) () 6) ∗ atPos ER (bCell c) 0 ∅ 0)
      ∗ (bigSep Finset.univ fun k => TK k c)
      ∗ (sepL (farL c) (fun j => sepL (p1s j.succ) fun k => RR k c) ∗ sepL (p1s 0) (fun k => RR k c) ∗ (RR (p2 0) c ∗ RR (p2 1) c ∗ RR (p2 2) c ∗ emp)
        ∗ sepL (nearL c) (fun j => RR (p3 j) c) ∗ sepL endR fun k => RR k c)
      ∗ sepL (L1 c) (fun k => srcRes I k c) ∗ (XO I 0 c ∗ sepL (farL c) fun j => XO I j.succ c)
      ∗ sepL (farL c) (fun j => iprop(∃ v : Blk F, own c (zS j) fullShare v))
      ∗ own c resM fullShare (I.res c) ∗ own c gamM fullShare (I.gam c) ∗ ∃ v : Blk F, own c (oS (slab c)) fullShare v) := by
  unfold START
  rw [sepL_univ nbL nbL_nodup nbL_all, rcv_split (fun k => RR k c) c, pre_split (fun k => srcRes I k c) c, four_split c,
    sepL_univ (farL c) (farL_nodup c) (farL_all c)]

omit [FloatOps F] in
theorem places (c : Dev nD) : iprop((bigSep Finset.univ fun b => get b c) ∗ (bigSep Finset.univ fun k => TK k c) : sProp 𝕄)
    = iprop(sepL (L1 c) (fun k => DT k c) ∗ sepL (farL c) (fun j => iprop(dstRes (p2 j) c ∗ TK (p2 j) c)) ∗ sepL (L3 c) (fun k => DT k c)
      ∗ sepL (nearL c) fun j => sepL (p4s j.succ) fun k => DT k c) := by
  rw [get_all, ← bigSep_sep' Finset.univ, ord_split _ c]
  rfl

theorem end_SS (c : Dev nD) : iprop(sepL (L1 c) (fun k => SS k c) ∗ sepL (farL c) (fun j => SS (p2 j) c) ∗ sepL (L3 c) (fun k => SS k c)
      ∗ sepL (nearL c) fun j => sepL (p4s j.succ) fun k => SS k c) = (sepL endS fun k => SS k c : sProp 𝕄) := by
  rw [← sepL_univ endS endS_nodup endS_all, ord_split (fun k => SS k c) c]

theorem end_RE (c : Dev nD) : iprop(sepL (farL c) (fun j => sepL (p1s j.succ) fun k => RD I k c) ∗ sepL (p1s 0) (fun k => RD I k c)
      ∗ (RD I (p2 0) c ∗ RD I (p2 1) c ∗ RD I (p2 2) c ∗ emp) ∗ sepL (nearL c) (fun j => semVal (rCell (p3 j) c) 0) ∗ sepL endR fun k => RD I k c)
    = bigSep Finset.univ fun k => RE I k c := by
  rw [rcv_split (fun k => RE I k c) c]
  rfl

theorem colIn_all (l : List (Fin 3)) (c : Dev nD) : sepL l (fun j => colIn I j c)
    = iprop(sepL l (fun j => sepL (p1s j.succ) fun k => RR k c) ∗ sepL l (fun j => XO I j.succ c)
      ∗ sepL l (fun j => iprop(∃ v : Blk F, own c (zS j) fullShare v)) ∗ sepL l (fun j => iprop(dstRes (p2 j) c ∗ TK (p2 j) c))) := by
  rw [← sepL_sep, ← sepL_sep, ← sepL_sep]
  rfl
theorem colOut_all (l : List (Fin 3)) (c : Dev nD) : sepL l (fun j => colOut I j c)
    = iprop(sepL l (fun j => sepL (p1s j.succ) fun k => RD I k c) ∗ sepL l (fun j => XO I j.succ c) ∗ sepL l (fun j => SS (p2 j) c)) := by
  rw [← sepL_sep, ← sepL_sep]
  rfl
omit [FloatOps F] in
theorem passIn_all (l : List (Fin 3)) (c : Dev nD) : (sepL l (fun j => passIn j c) : sProp 𝕄)
    = iprop(sepL l (fun j => RR (p3 j) c) ∗ sepL l fun j => sepL (p4s j.succ) fun k => DT k c) := by
  rw [← sepL_sep]; rfl
omit [FloatOps F] in
theorem passOut_all (l : List (Fin 3)) (c : Dev nD) : (sepL l (fun j => passOut j c) : sProp 𝕄)
    = iprop(sepL l (fun j => semVal (rCell (p3 j) c) 0) ∗ sepL l fun j => sepL (p4s j.succ) fun k => SS k c) := by
  rw [← sepL_sep]; rfl
theorem SR_all (l : List Ch) (c : Dev nD) : sepL l (fun k => SR I k c) = iprop(sepL l (fun k => srcRes I k c) ∗ sepL l fun k => DT k c) := by
  rw [← sepL_sep]; rfl

/-- The result block split six ways: the three column copies, the three plane copies. -/
theorem src_L3 (c : Dev nD) : (own c (oS (slab c)) fullShare (outv I c) : sProp 𝕄) = sepL (L3 c) fun k => srcRes I k c := by
  rw [src_p3, L3, sepL_append, sepL_map, ← sepL_univ (farL c) (farL_nodup c) (farL_all c), sepL_univ [0, 1, 2] (by decide) (by decide)]
  refine BI.equiv_iff.mp ⟨?_, ?_⟩
  · have h : iprop((srcRes I (p3 0) c ∗ srcRes I (p3 1) c ∗ srcRes I (p3 2) c) ∗ srcRes I (p4 0 0) c ∗ srcRes I (p4 1 0) c ∗ srcRes I (p4 2 0) c)
        ⊢ iprop((srcRes I (p3 0) c ∗ srcRes I (p3 1) c ∗ srcRes I (p3 2) c ∗ emp) ∗ srcRes I (p4 0 0) c ∗ srcRes I (p4 1 0) c ∗ srcRes I (p4 2 0) c ∗ emp) := by
      iintro ⟨⟨H1, H2, H3⟩, H4, H5, H6⟩
      isplitl [H1 H2 H3]
      · isplitl [H1]; · iexact H1
        isplitl [H2]; · iexact H2
        isplitl [H3]; · iexact H3
        iempintro
      isplitl [H4]; · iexact H4
      isplitl [H5]; · iexact H5
      isplitl [H6]; · iexact H6
      iempintro
    exact h
  · have h : iprop((srcRes I (p3 0) c ∗ srcRes I (p3 1) c ∗ srcRes I (p3 2) c ∗ emp) ∗ srcRes I (p4 0 0) c ∗ srcRes I (p4 1 0) c ∗ srcRes I (p4 2 0) c ∗ emp)
        ⊢ iprop((srcRes I (p3 0) c ∗ srcRes I (p3 1) c ∗ srcRes I (p3 2) c) ∗ srcRes I (p4 0 0) c ∗ srcRes I (p4 1 0) c ∗ srcRes I (p4 2 0) c) := by
      iintro ⟨⟨H1, H2, H3, -⟩, H4, H5, H6, -⟩
      isplitl [H1 H2 H3]
      · isplitl [H1]; · iexact H1
        isplitl [H2]; · iexact H2
        iexact H3
      isplitl [H4]; · iexact H4
      isplitl [H5]; · iexact H5
      iexact H6
    exact h

/-! ## The run -/

theorem lev_L34 (c : Dev nD) : ∀ k ∈ L3 c ++ L4 c, 3 < chLev k := by revert c; decide +kernel

theorem rule_kern (c : Dev nD) (Q : PUnit → sProp 𝕄) :
    iprop(ctx I K ∗ START I c ∗ (END I c -∗ Q ⟨⟩)) ⊢ WP c (kern c) Q := by
  rw [start_eq]
  unfold kern
  iintro ⟨#Hctx, ⟨Ho, Hb, Hbar, Htk, ⟨Hr1, Hr10, ⟨Hr20, Hr21, Hr22, -⟩, Hr3, Hr4⟩, Hsrc, ⟨Hx0, Hx⟩, Hz, Hres, Hgam, Hout⟩, Hk⟩
  iapply (rule_signals I K nbL c (ordL c) _ Q)
  isplitr; · iexact Hctx
  isplitl [Ho]; · iexact Ho
  isplitl [Hb]; · iexact Hb
  iintro Ho
  iapply (rule_meet I K c (ordL c) _ Q)
  isplitr; · iexact Hctx
  isplitl [Ho]; · iexact Ho
  isplitl [Hbar]; · iexact Hbar
  iintro ⟨Ho, Hget, Hzb⟩
  ihave Hpl := (Entails.of_eq (places (F := F) c)) $$ [Hget Htk]
  · isplitl [Hget] <;> iassumption
  icases Hpl with ⟨Hd1, Hd2, Hd3, Hd4⟩
  unfold reduceHalf
  iapply (rule_sends I K (L1 c) c ((farL c).map p2 ++ (L3 c ++ L4 c)) _ Q)
  isplitr; · iexact Hctx
  isplitl [Ho]; · iexact Ho
  isplitl [Hsrc Hd1]
  · rw [SR_all]
    isplitl [Hsrc] <;> iassumption
  iintro ⟨Ho, Hs1⟩
  iapply (rule_reduceCols I K (farL c) c (L3 c ++ L4 c) (lev_L34 c) _ Q)
  isplitr; · iexact Hctx
  isplitl [Ho]; · iexact Ho
  isplitl [Hr1 Hx Hz Hd2]
  · rw [colIn_all]
    isplitl [Hr1]; · iexact Hr1
    isplitl [Hx]; · iexact Hx
    isplitl [Hz] <;> iassumption
  rw [colOut_all]
  iintro ⟨Ho, Hr1, Hx, Hs2⟩
  iapply (rule_norm I K c (L3 c ++ L4 c) (lev_L34 c) _ Q)
  isplitr; · iexact Hctx
  isplitl [Ho]; · iexact Ho
  isplitl [Hr10 Hx0 Hr20 Hr21 Hr22 Hres Hgam Hout]
  · unfold normIn
    isplitl [Hr10]; · iexact Hr10
    isplitl [Hx0]; · iexact Hx0
    isplitl [Hr20 Hr21 Hr22]
    · isplitl [Hr20]; · iexact Hr20
      isplitl [Hr21] <;> iassumption
    isplitl [Hres]; · iexact Hres
    isplitl [Hgam] <;> iassumption
  unfold normOut
  iintro ⟨Ho, Hr10, Hx0, ⟨Hr20, Hr21, Hr22⟩, Hres, Hgam, Hout⟩
  unfold passHalf
  iapply (rule_sends I K (L3 c) c (L4 c) _ Q)
  isplitr; · iexact Hctx
  isplitl [Ho]; · iexact Ho
  isplitl [Hout Hd3]
  · rw [SR_all, ← src_L3]
    isplitl [Hout] <;> iassumption
  iintro ⟨Ho, Hs3⟩
  iapply (rule_passCols I K (nearL c) c _ Q)
  isplitr; · iexact Hctx
  isplitl [Ho]; · iexact Ho
  isplitl [Hr3 Hd4]
  · rw [passIn_all]
    isplitl [Hr3] <;> iassumption
  rw [passOut_all]
  iintro ⟨Ho, Hr3, Hs4⟩
  iapply (rule_recvs I K endR c [] (by intro k _ k' hk'; cases hk') _ Q)
  isplitr; · iexact Hctx
  isplitl [Ho]; · iexact Ho
  isplitl [Hr4]; · iexact Hr4
  iintro ⟨Ho, Hr4⟩
  ihave Hs := (Entails.of_eq (end_SS (F := F) c)) $$ [Hs1 Hs2 Hs3 Hs4]
  · isplitl [Hs1]; · iexact Hs1
    isplitl [Hs2]; · iexact Hs2
    isplitl [Hs3] <;> iassumption
  iapply (rule_sents I K endS c _ Q)
  isplitr; · iexact Hctx
  isplitl [Ho]; · iexact Ho
  isplitl [Hs]; · iexact Hs
  iintro ⟨Ho, Hs⟩
  unfold WP
  rw [wp_ret]
  imodintro
  iapply Hk
  unfold END
  isplitl [Ho]; · iexact Ho
  isplitl [Hzb]; · iexact Hzb
  isplitl [Hs]
  · rw [sepL_univ endS endS_nodup endS_all]; iexact Hs
  isplitl [Hr1 Hr10 Hr20 Hr21 Hr22 Hr3 Hr4]
  · rw [← end_RE]
    isplitl [Hr1]; · iexact Hr1
    isplitl [Hr10]; · iexact Hr10
    isplitl [Hr20 Hr21 Hr22]
    · isplitl [Hr20]; · iexact Hr20
      isplitl [Hr21]; · iexact Hr21
      isplitl [Hr22]; · iexact Hr22
      iempintro
    isplitl [Hr3] <;> iassumption
  isplitl [Hx0 Hx]
  · rw [four_split c]
    isplitl [Hx0] <;> iassumption
  isplitl [Hres] <;> iassumption

end Cert.AllReduce
-- ==== Proof.Deal.lean ====
/-
# A device's buffers, dealt out and gathered

A device starts with its staged inputs, its staged result and its three scratch buffers whole. It hands its neighbours the
places they will write, keeps the blocks it sends and reads, and at the end has every buffer whole again: the result holds
the sixteen normalised blocks.
-/
module

public import proofs.«01_k».proof.Proof.Run

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem unit_split (Ψ : Unit → sProp 𝕄) : bigSep Finset.univ Ψ = Ψ () := bigSep_univ_eq_bigSepL [()] (by decide) (by decide) Ψ
omit [FloatOps F] in
theorem ch_split (Ψ : Ch → sProp 𝕄) : bigSep Finset.univ Ψ = iprop((bigSep Finset.univ fun t : Fin 3 × Fin 4 => Ψ (p1 t.1 t.2))
    ∗ (bigSep Finset.univ fun j => Ψ (p2 j)) ∗ (bigSep Finset.univ fun j => Ψ (p3 j)) ∗ bigSep Finset.univ fun t : Fin 3 × Fin 4 => Ψ (p4 t.1 t.2)) := by
  rw [bigSep_univ_sum, bigSep_univ_sum, bigSep_univ_sum]; rfl
omit [FloatOps F] in
theorem cx_split (Ψ : Cx → sProp 𝕄) : bigSep Finset.univ Ψ
    = iprop(Ψ (.inl ()) ∗ (bigSep Finset.univ fun k => Ψ (.inr (.inl k))) ∗ bigSep Finset.univ fun k => Ψ (.inr (.inr k))) := by
  rw [bigSep_univ_sum, bigSep_univ_sum, unit_split]; rfl

/-! ## Which block is whose -/

/-- The staged part of the sum: the slabs of the own column, and those of the plane's other columns. -/
def xIx (c : Dev nD) : Fin 4 ⊕ (Fin 3 × Fin 4) → Fin 16
  | .inl j => slabF j c
  | .inr t => slabF t.2 (pl t.1 c)
/-- The result: the own slab, those that come along the column, those that come from the plane. -/
def oIx (c : Dev nD) : Unit ⊕ (Fin 3 ⊕ (Fin 3 × Fin 4)) → Fin 16
  | .inl _ => slab c
  | .inr (.inl j) => slab (col j.rev c)
  | .inr (.inr t) => slab (zb t.2 (pl t.1.rev c))

theorem xIx_bij (c : Dev nD) : Function.Bijective (xIx c) := by revert c; decide +kernel
theorem oIx_bij (c : Dev nD) : Function.Bijective (oIx c) := by revert c; decide +kernel

omit [FloatOps F] in
theorem x_ix (c : Dev nD) (Ψ : Fin 16 → sProp 𝕄) : bigSep Finset.univ Ψ
    = iprop((bigSep Finset.univ fun j => Ψ (slabF j c)) ∗ bigSep Finset.univ fun t : Fin 3 × Fin 4 => Ψ (slabF t.2 (pl t.1 c))) := by
  rw [bigSep_bij (xIx c) (xIx_bij c), bigSep_univ_sum]; rfl
omit [FloatOps F] in
theorem o_ix (c : Dev nD) (Ψ : Fin 16 → sProp 𝕄) : bigSep Finset.univ Ψ
    = iprop(Ψ (slab c) ∗ (bigSep Finset.univ fun j : Fin 3 => Ψ (slab (col j.rev c)))
      ∗ bigSep Finset.univ fun t : Fin 3 × Fin 4 => Ψ (slab (zb t.2 (pl t.1.rev c)))) := by
  rw [bigSep_bij (oIx c) (oIx_bij c), bigSep_univ_sum, bigSep_univ_sum, unit_split]; rfl

variable (I : Ins F)

/-! ## The staged part of the sum -/

theorem x_whole (c : Dev nD) : (own c xM fullShare (I.x c) : sProp 𝕄)
    = iprop((bigSep Finset.univ fun j => XO I j c) ∗ bigSep Finset.univ fun t : Fin 3 × Fin 4 => srcRes I (p1 t.1 t.2) c) := by
  have h : (own c xM fullShare (I.x c) : sProp 𝕄) = bigSep Finset.univ fun r => own c (xS r) fullShare (xB (I.x c) r) :=
    BI.equiv_iff.mp ⟨x_split c fullShare (I.x c), x_join c fullShare (I.x c)⟩
  rw [h, x_ix c]
  rfl

/-! ## The places others write -/

/-- Where channel `k` lands on `c`, whatever it holds. -/
def land (k : Ch) (c : Dev nD) : sProp 𝕄 := iprop(∃ v : Blk F, own c (dstM k (orig k c)) fullShare v)

theorem nb_orig (b : Nb) : ∀ k ∈ chs (nrev b), ∀ c, nb b c = orig k c := by revert b; decide +kernel

omit [FloatOps F] in
theorem dst_orig (k : Ch) (c : Dev nD) : (dstRes k (orig k c) : sProp 𝕄) = land k c := by
  unfold dstRes land; rw [peer_orig]

omit [FloatOps F] in
theorem sepL_congr {T : Type} (l : List T) {Φ Ψ : T → sProp 𝕄} (h : ∀ k ∈ l, Φ k = Ψ k) : sepL l Φ = sepL l Ψ := by
  induction l with
  | nil => rfl
  | cons k l ih =>
    show iprop(Φ k ∗ sepL l Φ) = iprop(Ψ k ∗ sepL l Ψ)
    rw [h k List.mem_cons_self, ih fun k' hk' => h k' (List.mem_cons_of_mem _ hk')]

omit [FloatOps F] in
theorem gets (c : Dev nD) : (bigSep Finset.univ fun b => (get (nrev b) (nb b c) : sProp 𝕄)) = bigSep Finset.univ fun k => land k c := by
  have h (b : Nb) : (get (nrev b) (nb b c) : sProp 𝕄) = sepL (chs (nrev b)) fun k => land k c :=
    sepL_congr _ fun k hk => by rw [nb_orig b k hk c]; exact dst_orig k c
  have e : (bigSep Finset.univ fun b => sepL (chs (nrev b)) fun k => (land k c : sProp 𝕄)) = bigSep Finset.univ fun b => sepL (chs b) fun k => land k c :=
    (bigSep_univ_equiv nrevE (fun b => sepL (chs b) fun k => (land k c : sProp 𝕄))).symm
  rw [bigSep_congr (s := Finset.univ) (fun b _ => h b), e, sepL_univ nbL nbL_nodup nbL_all, sepL_univ (nbL.flatMap chs) nbL_chs_nodup nbL_chs_all, sepL_flatMap]

omit [FloatOps F] in
theorem lands (c : Dev nD) : (bigSep Finset.univ fun k => (land k c : sProp 𝕄))
    = iprop((bigSep Finset.univ fun t : Fin 3 × Fin 4 => iprop(∃ v : Blk F, own c (b1S t.1 t.2) fullShare v))
      ∗ (bigSep Finset.univ fun j => iprop(∃ v : Blk F, own c (b2S j) fullShare v))
      ∗ (bigSep Finset.univ fun j : Fin 3 => iprop(∃ v : Blk F, own c (oS (slab (col j.rev c))) fullShare v))
      ∗ bigSep Finset.univ fun t : Fin 3 × Fin 4 => iprop(∃ v : Blk F, own c (oS (slab (zb t.2 (pl t.1.rev c)))) fullShare v)) := by
  rw [ch_split]; rfl

/-! ## Dealing out -/

/-- The buffers at the start. -/
def WHOLE (c : Dev nD) : sProp 𝕄 :=
  iprop(own c xM fullShare (I.x c) ∗ own c resM fullShare (I.res c) ∗ own c gamM fullShare (I.gam c)
    ∗ (∃ X, own c outM fullShare X) ∗ (∃ X, own c b1W fullShare X) ∗ (∃ X, own c zW fullShare X) ∗ ∃ X, own c b2W fullShare X)

omit [FloatOps F] in
theorem own_any (c : Dev nD) {s : Shape} (m : Memref sig .tc .vmem s .f32) (X : s.Idx → Elt F .f32) :
    (own c m fullShare X : sProp 𝕄) ⊢ iprop(∃ v : s.Idx → Elt F .f32, own c m fullShare v) := by
  iintro H; iexists X; iexact H
omit [FloatOps F] in
theorem o_parts (c : Dev nD) (X : S512x512.Idx → Elt F .f32) : (own c outM fullShare X : sProp 𝕄) ⊢ bigSep Finset.univ fun r => iprop(∃ v : Blk F, own c (oS r) fullShare v) :=
  (o_split c fullShare X).trans (bigSep_mono fun r _ => own_any c _ _)
omit [FloatOps F] in
theorem b1_parts (c : Dev nD) (X : S3x4x32x512.Idx → Elt F .f32) :
    (own c b1W fullShare X : sProp 𝕄) ⊢ bigSep Finset.univ fun t : Fin 3 × Fin 4 => iprop(∃ v : Blk F, own c (b1S t.1 t.2) fullShare v) :=
  (b1_split c fullShare X).trans (bigSep_mono fun r _ => own_any c _ _)
omit [FloatOps F] in
theorem z_parts (c : Dev nD) (X : S3x32x512.Idx → Elt F .f32) : (own c zW fullShare X : sProp 𝕄) ⊢ bigSep Finset.univ fun j => iprop(∃ v : Blk F, own c (zS j) fullShare v) :=
  (z_split c fullShare X).trans (bigSep_mono fun r _ => own_any c _ _)
omit [FloatOps F] in
theorem b2_parts (c : Dev nD) (X : S3x32x512.Idx → Elt F .f32) : (own c b2W fullShare X : sProp 𝕄) ⊢ bigSep Finset.univ fun j => iprop(∃ v : Blk F, own c (b2S j) fullShare v) :=
  (b2_split c fullShare X).trans (bigSep_mono fun r _ => own_any c _ _)

theorem deal (c : Dev nD) : WHOLE I c ⊢ iprop((bigSep Finset.univ fun b => get (nrev b) (nb b c))
    ∗ (bigSep Finset.univ fun t : Fin 3 × Fin 4 => srcRes I (p1 t.1 t.2) c) ∗ (bigSep Finset.univ fun j => XO I j c)
    ∗ (bigSep Finset.univ fun j => iprop(∃ v : Blk F, own c (zS j) fullShare v))
    ∗ own c resM fullShare (I.res c) ∗ own c gamM fullShare (I.gam c) ∗ ∃ v : Blk F, own c (oS (slab c)) fullShare v) := by
  rw [gets, lands]
  unfold WHOLE
  rw [x_whole]
  iintro ⟨⟨Hx, Hs⟩, Hr, Hg, ⟨%X, Ho⟩, ⟨%X1, H1⟩, ⟨%Xz, Hz⟩, ⟨%X2, H2⟩⟩
  ihave Ho := (o_parts (F := F) c X) $$ Ho
  ihave H1 := (b1_parts (F := F) c X1) $$ H1
  ihave Hz := (z_parts (F := F) c Xz) $$ Hz
  ihave H2 := (b2_parts (F := F) c X2) $$ H2
  ihave Ho' := (Entails.of_eq (o_ix c fun r => (iprop(∃ v : Blk F, own c (oS r) fullShare v) : sProp 𝕄))) $$ Ho
  icases Ho' with ⟨Ho1, Ho2, Ho3⟩
  isplitl [H1 H2 Ho2 Ho3]
  · isplitl [H1]; · iexact H1
    isplitl [H2]; · iexact H2
    isplitl [Ho2] <;> iassumption
  isplitl [Hs]; · iexact Hs
  isplitl [Hx]; · iexact Hx
  isplitl [Hz]; · iexact Hz
  isplitl [Hr]; · iexact Hr
  isplitl [Hg] <;> iassumption

/-! ## Gathering -/

/-- The whole result. -/
def outAll : S512x512.Idx → Elt F .f32 := oJoin fun r => outv I (owner r)

theorem out_join (c : Dev nD) : iprop(own c (oS (slab c)) fullShare (outv I c) ∗ (bigSep Finset.univ fun j => rPay I (p3 j) c)
    ∗ bigSep Finset.univ fun t : Fin 3 × Fin 4 => rPay I (p4 t.1 t.2) c) ⊢ own c outM fullShare (outAll I) := by
  have h := o_join (F := F) (Ix := Unit) (Name := ℕ) (U := UU) (Lvl := ℕ) c fullShare (outAll I)
  rw [o_ix c] at h
  have e (d : Dev nD) : oB (outAll I) (slab d) = outv I d := by unfold outAll; rw [oB_oJoin, owner_slab]
  simp only [e] at h
  exact h

/-- What the result block and the passed-on blocks were lent from. -/
theorem lent (c : Dev nD) : iprop((bigSep Finset.univ fun j => srcRes I (p3 j) c) ∗ bigSep Finset.univ fun t : Fin 3 × Fin 4 => srcRes I (p4 t.1 t.2) c)
    ⊢ iprop(own c (oS (slab c)) fullShare (outv I c) ∗ bigSep Finset.univ fun j => rPay I (p3 j) c) := by
  rw [bigSep_univ_eq_bigSepL [(0 : Fin 3), 1, 2] (by decide) (by decide) fun j => srcRes I (p3 j) c,
    bigSep_univ_eq_bigSepL [(0 : Fin 3), 1, 2] (by decide) (by decide) fun j => rPay I (p3 j) c,
    bigSep_univ_eq_bigSepL [((0 : Fin 3), (0 : Fin 4)), (1, 0), (2, 0), (0, 1), (1, 1), (2, 1), (0, 2), (1, 2), (2, 2), (0, 3), (1, 3), (2, 3)] (by decide) (by decide)
      fun t => srcRes I (p4 t.1 t.2) c, src_p3]
  show iprop((srcRes I (p3 0) c ∗ srcRes I (p3 1) c ∗ srcRes I (p3 2) c)
      ∗ srcRes I (p4 0 0) c ∗ srcRes I (p4 1 0) c ∗ srcRes I (p4 2 0) c ∗ srcRes I (p4 0 1) c ∗ srcRes I (p4 1 1) c ∗ srcRes I (p4 2 1) c
      ∗ srcRes I (p4 0 2) c ∗ srcRes I (p4 1 2) c ∗ srcRes I (p4 2 2) c ∗ srcRes I (p4 0 3) c ∗ srcRes I (p4 1 3) c ∗ srcRes I (p4 2 3) c)
    ⊢ iprop(((srcRes I (p3 0) c ∗ srcRes I (p3 1) c ∗ srcRes I (p3 2) c) ∗ srcRes I (p4 0 0) c ∗ srcRes I (p4 1 0) c ∗ srcRes I (p4 2 0) c)
      ∗ rPay I (p3 0) c ∗ rPay I (p3 1) c ∗ rPay I (p3 2) c)
  rw [src_p4, src_p4, src_p4]
  iintro ⟨H3, A0, A1, A2, B0, B1, B2, C0, C1, C2, D0, D1, D2⟩
  isplitl [H3 A0 A1 A2]
  · isplitl [H3]; · iexact H3
    isplitl [A0]; · iexact A0
    isplitl [A1]; · iexact A1
    iexact A2
  isplitl [B0 B1 B2]
  · isplitl [B0]; · iexact B0
    isplitl [B1]; · iexact B1
    iexact B2
  isplitl [C0 C1 C2]
  · isplitl [C0]; · iexact C0
    isplitl [C1]; · iexact C1
    iexact C2
  isplitl [D0]; · iexact D0
  isplitl [D1]; · iexact D1
  iexact D2

/-- What an arrival leaves, apart from its counter. -/
def REp (k : Ch) (c : Dev nD) : sProp 𝕄 := match k with
  | p3 _ => iprop(emp)
  | k => rPay I k c

theorem REp_p1 (d : Fin 3) (j : Fin 4) (c : Dev nD) : REp I (p1 d j) c = own c (b1S d j) fullShare (p1v I d j c) := rPay_p1 I d j c

theorem RE_eq (k : Ch) (c : Dev nD) : RE I k c = iprop(REp I k c ∗ semVal (rCell k c) 0) := by
  rcases k with ⟨d, j⟩ | j | j | ⟨d, j⟩
  · rfl
  · rfl
  · exact (BI.equiv_iff.mp ⟨emp_sep.1, emp_sep.2⟩).symm
  · rfl

/-- The buffers at the end. -/
def DONE (c : Dev nD) : sProp 𝕄 :=
  iprop(own c xM fullShare (I.x c) ∗ own c resM fullShare (I.res c) ∗ own c gamM fullShare (I.gam c)
    ∗ own c outM fullShare (outAll I) ∗ (∃ X, own c b1W fullShare X) ∗ (∃ X, own c zW fullShare X) ∗ ∃ X, own c b2W fullShare X)

theorem gather (c : Dev nD) : END I c ⊢ iprop(owesE c 0 ∗ DONE I c ∗ bigSep Finset.univ fun x => semVal (cell x c) 0) := by
  unfold END DONE
  rw [bigSep_congr (s := Finset.univ) (fun k _ => RE_eq I k c), bigSep_sep' Finset.univ (fun k => REp I k c), ch_split (fun k => REp I k c)]
  unfold SD
  rw [bigSep_sep' Finset.univ (fun k => srcRes I k c), ch_split (fun k => srcRes I k c), x_whole, cx_split]
  iintro ⟨Ho, Hb, ⟨⟨S1, S2, S3, S4⟩, Hss⟩, ⟨⟨R1, R2, -, R4⟩, Hrs⟩, Hx, Hr, Hg⟩
  ihave Hl := (lent I c) $$ [S3 S4]
  · isplitl [S3] <;> iassumption
  icases Hl with ⟨O1, O3⟩
  ihave Hout := (out_join I c) $$ [O1 O3 R4]
  · isplitl [O1]; · iexact O1
    isplitl [O3]; · iexact O3
    iexact R4
  have h1 : (bigSep Finset.univ fun t : Fin 3 × Fin 4 => REp I (p1 t.1 t.2) c) ⊢ (iprop(∃ X, own c b1W fullShare X) : sProp 𝕄) := by
    rw [show (bigSep Finset.univ fun t : Fin 3 × Fin 4 => REp I (p1 t.1 t.2) c) = bigSep Finset.univ fun t : Fin 3 × Fin 4 => own c (b1S t.1 t.2) fullShare (p1v I t.1 t.2 c)
      from bigSep_congr (s := Finset.univ) fun t _ => REp_p1 I t.1 t.2 c]
    exact b1_join c fun t => p1v I t.1 t.2 c
  have h2 : (bigSep Finset.univ fun j => REp I (p2 j) c) ⊢ (iprop(∃ X, own c b2W fullShare X) : sProp 𝕄) :=
    three_join b2W c fun j => p2v I j c
  have hz : (bigSep Finset.univ fun j => srcRes I (p2 j) c) ⊢ (iprop(∃ X, own c zW fullShare X) : sProp 𝕄) :=
    three_join zW c fun j => psum I j.succ c
  ihave B1 := h1 $$ R1
  ihave B2 := h2 $$ R2
  ihave Z := hz $$ S2
  isplitl [Ho]; · iexact Ho
  isplitl [S1 Hx Hr Hg Hout B1 B2 Z]
  · isplitl [S1 Hx]
    · isplitl [Hx] <;> iassumption
    isplitl [Hr]; · iexact Hr
    isplitl [Hg]; · iexact Hg
    isplitl [Hout]; · iexact Hout
    isplitl [B1]; · iexact B1
    isplitl [Z] <;> iassumption
  isplitl [Hb]; · iexact Hb
  isplitl [Hss]; · iexact Hss
  iexact Hrs

end Cert.AllReduce
-- ==== Proof.Ghost.lean ====
/-
# The protocol's launch

The semaphores of all devices become cells of the protocol at once. Each device keeps the places at its own cells, and the
tokens of a cell go to the device that pays the duty: a barrier's to the neighbour that signals it, a receive cell's to the
sender. What a device owes at launch becomes, over all devices, the credit each device waits with.
-/
module

public import proofs.«01_k».proof.Proof.Deal
public import proofs.«01_k».proof.Proof.Gen.KernelIdeal.Frame
public import Idealize.ShloMosaic.Lib.Pipeline.Launch

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device owes, and the credit it gets -/

/-- Every landing and every signal. -/
def O₀ (c : Dev nD) : CellTallies nD τ sig Unit := owB c (ordL c) nbL

theorem owR_sum (c : Dev nD) (l : List Ch) (hl : l.Nodup) : owR c l = ∑ k ∈ l.toFinset, tallyAt (rCell k (peer k c)) () N := by
  induction l with
  | nil => rfl
  | cons k l ih =>
    rw [List.toFinset_cons, Finset.sum_insert (by rw [List.mem_toFinset]; exact (List.nodup_cons.mp hl).1), ← ih (List.nodup_cons.mp hl).2, add_comm]
    rfl
theorem owB_sum (c : Dev nD) (l : List Ch) (l' : List Nb) (hl : l'.Nodup) : owB c l l' = owR c l + ∑ b ∈ l'.toFinset, tallyAt (bCell (nb b c)) () 1 := by
  induction l' with
  | nil => exact (add_zero _).symm
  | cons b l' ih =>
    rw [List.toFinset_cons, Finset.sum_insert (by rw [List.mem_toFinset]; exact (List.nodup_cons.mp hl).1)]
    show owB c l l' + _ = _
    rw [ih (List.nodup_cons.mp hl).2, add_assoc, add_comm (Finset.sum _ _)]
theorem O₀_eq (c : Dev nD) : O₀ c = (∑ k : Ch, tallyAt (rCell k (peer k c)) () N) + ∑ b : Nb, tallyAt (bCell (nb b c)) () 1 := by
  have h1 : (ordL c).toFinset = Finset.univ := Finset.eq_univ_iff_forall.mpr fun t => List.mem_toFinset.mpr (ordL_all c t)
  have h2 : nbL.toFinset = Finset.univ := Finset.eq_univ_iff_forall.mpr fun t => List.mem_toFinset.mpr (nbL_all t)
  unfold O₀
  rw [owB_sum c _ _ nbL_nodup, owR_sum c _ (ordL_nodup c), h1, h2]

/-- The credit of a device: six signals, and a block on each channel. -/
def creds (c : Dev nD) : sProp 𝕄 :=
  iprop(cred (tallyAt (bCell c) () 6) ∗ bigSep Finset.univ fun k => cred (tallyAt (rCell k c) () N))

omit [FloatOps F] in
theorem cred_six (c : Dev nD) : (bigSep Finset.univ fun _ : Nb => (cred (tallyAt (bCell c) () 1) : sProp 𝕄)) = cred (tallyAt (bCell c) () 6) := by
  rw [← Pipeline.cred_finsetSum]
  congr 1
  funext g
  refine Finsupp.ext fun u => ?_
  rw [Finset.sum_apply, Finsupp.finsetSum_apply]
  simp only [tallyAt_apply]
  rw [Finset.sum_const, Finset.card_univ]
  have h6 : Fintype.card Nb = 6 := rfl
  rw [h6]
  split <;> rfl

omit [FloatOps F] in
theorem creds_intro (c : Dev nD) : (Pipeline.launchCred O₀ c : sProp 𝕄) ⊢ creds c := by
  rw [show O₀ = fun d => (∑ k : Ch, tallyAt (rCell k (peer k d)) () N) + ∑ b : Nb, tallyAt (bCell (nb b d)) () 1 from funext O₀_eq,
    Pipeline.launchCred_add (fun d => ∑ k : Ch, tallyAt (rCell k (peer k d)) () N),
    Pipeline.launchCred_sum Finset.univ (fun k d => tallyAt (rCell k (peer k d)) () N),
    Pipeline.launchCred_sum Finset.univ (fun b d => tallyAt (bCell (nb b d)) () 1)]
  unfold creds
  rw [← cred_six]
  have h1 : (bigSep Finset.univ fun k : Ch => (Pipeline.launchCred (fun d => tallyAt (rCell k (peer k d)) () N) c : sProp 𝕄))
      ⊢ bigSep Finset.univ fun k : Ch => cred (tallyAt (rCell k c) () N) :=
    bigSep_mono fun k _ => Pipeline.launchCred_tallyAt (.dma (rS k)) (peer k) (orig k) (peer_orig k) (orig_peer k) () N c
  have h2 : (bigSep Finset.univ fun b : Nb => (Pipeline.launchCred (fun d => tallyAt (bCell (nb b d)) () 1) c : sProp 𝕄))
      ⊢ bigSep Finset.univ fun b : Nb => cred (tallyAt (bCell c) () 1) :=
    bigSep_mono fun b _ => Pipeline.launchCred_tallyAt (.reg barS) (nb b) (nb (nrev b)) (nbE b).apply_symm_apply (nb_nrev b) () 1 c
  iintro ⟨H1, H2⟩
  isplitl [H2]
  · iapply h2; iexact H2
  · iapply h1; iexact H1

/-! ## Tokens and places -/

/-- The duty tokens of a device's own cells. -/
def toks (c : Dev nD) : sProp 𝕄 :=
  iprop((bigSep Finset.univ fun b => dutyTok ER (bCell c) 0 b) ∗ (bigSep Finset.univ fun k => dutyTok ER (sCell k c) 0 dd)
    ∗ bigSep Finset.univ fun k => dutyTok ER (rCell k c) 0 dd)
/-- The tokens of the duties a device pays. -/
def payToks (c : Dev nD) : sProp 𝕄 :=
  iprop((bigSep Finset.univ fun b => dutyTok ER (bCell (nb b c)) 0 (nrev b)) ∗ (bigSep Finset.univ fun k => dutyTok ER (sCell k c) 0 dd)
    ∗ bigSep Finset.univ fun k => dutyTok ER (rCell k (peer k c)) 0 dd)
/-- What stays with a device: the places at its cells, the tokens it pays with. -/
def linear (c : Dev nD) : sProp 𝕄 := iprop((bigSep Finset.univ fun x => atPos ER (cell x c) 0 ∅ 0) ∗ payToks c)

/-- A family over the devices may be handed around, each member its own way. -/
def aroundE {T : Type} (e : T → Dev nD ≃ Dev nD) : Dev nD × T ≃ Dev nD × T :=
  ⟨fun p => (e p.2 p.1, p.2), fun p => ((e p.2).symm p.1, p.2), fun p => by simp, fun p => by simp⟩
omit [FloatOps F] in
theorem around {T : Type} [Fintype T] (e : T → Dev nD ≃ Dev nD) (Φ : T → Dev nD → sProp 𝕄) :
    (bigSep Finset.univ fun c => bigSep Finset.univ fun t => Φ t c) = bigSep Finset.univ fun c => bigSep Finset.univ fun t => Φ t (e t c) := by
  rw [← bigSep_univ_prod fun p : Dev nD × T => Φ p.2 p.1, bigSep_univ_equiv (aroundE e), bigSep_univ_prod]
  rfl

omit [FloatOps F] in
theorem toks_around : (bigSep Finset.univ fun c : Dev nD => (toks c : sProp 𝕄)) = bigSep Finset.univ fun c : Dev nD => payToks c := by
  have hb (c : Dev nD) : (bigSep Finset.univ fun b => (dutyTok ER (bCell c) 0 b : sProp 𝕄)) = bigSep Finset.univ fun b => dutyTok ER (bCell c) 0 (nrev b) :=
    bigSep_univ_equiv nrevE _
  unfold toks payToks
  rw [bigSep_sep', bigSep_sep', bigSep_sep', bigSep_sep', bigSep_congr (s := Finset.univ) (fun (c : Dev nD) _ => hb c),
    around nbE (fun b c => dutyTok ER (bCell c) 0 (nrev b)), around peerE (fun k c => dutyTok ER (rCell k c) 0 dd)]
  rfl

/-! ## From a device's share to the start of its program -/

variable (I : Ins F) (K : Dev nD × Cx → ℕ)

theorem start_of (c : Dev nD) : iprop(owesE c (O₀ c) ∗ linear c ∗ creds c ∗ WHOLE I c) ⊢ START I c := by
  unfold linear payToks creds START BR TK RR
  rw [cx_split, bigSep_sep' Finset.univ (fun b => dutyTok ER (bCell (nb b c)) 0 (nrev b)), bigSep_sep' Finset.univ (fun k => dutyTok ER (sCell k c) 0 dd),
    bigSep_sep' Finset.univ (fun k => dutyTok ER (rCell k (peer k c)) 0 dd), bigSep_sep' Finset.univ (fun k => cred (tallyAt (rCell k c) () N))]
  iintro ⟨Ho, ⟨⟨Ab, As, Ar⟩, Tb, Ts, Tr⟩, ⟨Cb, Cr⟩, Hw⟩
  ihave Hd := (deal I c) $$ Hw
  icases Hd with ⟨Hget, Hrest⟩
  isplitl [Ho]; · iexact Ho
  isplitl [Tb Hget]
  · isplitl [Tb] <;> iassumption
  isplitl [Cb Ab]
  · isplitl [Cb]; · iexact Cb
    iexact Ab
  isplitl [Ts Tr As]
  · isplitl [Ts]; · iexact Ts
    isplitl [Tr]; · iexact Tr
    iexact As
  isplitl [Cr Ar]
  · isplitl [Cr]; · iexact Cr
    iexact Ar
  iexact Hrest

theorem rule_body (c : Dev nD) (Q : PUnit → sProp 𝕄) :
    iprop(ctx I K ∗ (owesE c (O₀ c) ∗ linear c ∗ creds c ∗ WHOLE I c)
        ∗ (owesE c 0 ∗ DONE I c ∗ (bigSep Finset.univ fun x => semVal (cell x c) 0) -∗ Q ⟨⟩)) ⊢ WP c (kern c) Q := by
  iintro ⟨#Hctx, Hs, Hk⟩
  iapply (rule_kern I K c Q)
  isplitr; · iexact Hctx
  isplitl [Hs]; · iapply (start_of I c); iexact Hs
  iintro He
  iapply Hk
  iapply (gather I c)
  iexact He

/-! ## The cells -/

theorem cell_injective : Function.Injective fun p : Dev nD × Cx => (cell p.2 p.1 : GSem nD τ sig) := by
  rintro ⟨c, x⟩ ⟨c', x'⟩ h
  have h1 : c = c' := congrArg (fun g : GSem nD τ sig => g.1.1) h
  have h2 : x = x' := csem_inj (congrArg Prod.snd h)
  rw [h1, h2]
def ringCells : Finset (GSem nD τ sig) := Finset.univ.map ⟨_, cell_injective⟩

/-- The duties: a barrier's six, a channel cell's one. -/
abbrev Tx : Type := Nb ⊕ (Ch ⊕ Ch)
def tokOf (p : Dev nD × Tx) : GSem nD τ sig × ℕ × Nb := match p.2 with
  | .inl b => (bCell p.1, 0, b)
  | .inr x => (cell (.inr x) p.1, 0, dd)
theorem tokOf_injective : Function.Injective (tokOf : Dev nD × Tx → GSem nD τ sig × ℕ × Nb) := by
  rintro ⟨c, x⟩ ⟨c', x'⟩ h
  have hc {y y' : Cx} (e : cell y c = cell y' c') : c = c' ∧ y = y' := by
    have := @cell_injective (c, y) (c', y') e
    exact ⟨congrArg Prod.fst this, congrArg Prod.snd this⟩
  rcases x with b | x <;> rcases x' with b' | x'
  · obtain ⟨h1, -⟩ := hc (y := .inl ()) (y' := .inl ()) (congrArg Prod.fst h)
    have h2 : b = b' := congrArg (fun x : GSem nD τ sig × ℕ × Nb => x.2.2) h
    rw [h1, h2]
  · exact absurd (hc (y := .inl ()) (y' := .inr x') (congrArg Prod.fst h)).2 (by simp)
  · exact absurd (hc (y := .inr x) (y' := .inl ()) (congrArg Prod.fst h)).2 (by simp)
  · obtain ⟨h1, h2⟩ := hc (y := .inr x) (y' := .inr x') (congrArg Prod.fst h)
    rw [h1, Sum.inr.inj h2]
def ringToks : Finset (GSem nD τ sig × ℕ × Nb) := Finset.univ.map ⟨tokOf, tokOf_injective⟩

/-- The launch's ghost resources: the staging protocol's and this one's. -/
def u₀ : UU := (initOf (Pipeline.cells cfgs cellOf_inj) (Pipeline.launchToks cfgs cellOf_inj), initOf ringCells ringToks)

/-- What a device is dealt of this protocol's. -/
def G (c : Dev nD) : sProp 𝕄 :=
  iprop((bigSep Finset.univ fun x => roundState ER (Rd I) (cell x c) 0)
    ∗ (bigSep Finset.univ fun x => atPos ER (cell x c) 0 ∅ 0) ∗ (bigSep Finset.univ fun x => reached ER (cell x c) 0) ∗ toks c)
/-- What it has once the cells stand. -/
def G' (c : Dev nD) : sProp 𝕄 := iprop(∃ K, records I K ∗ linear c)

theorem fund : BI.own (ER (initOf ringCells ringToks)) ⊢ (|==> bigSep Finset.univ (G I) : sProp 𝕄) := by
  have hX (Φ : GSem nD τ sig → sProp 𝕄) : bigSep ringCells Φ = bigSep Finset.univ fun c : Dev nD => bigSep Finset.univ fun x => Φ (cell x c) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum]
    rfl
  iintro HX
  imod (Rounds.fund ER (Rd I) ringCells ringToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G
  rw [bigSep_sep', bigSep_sep', bigSep_sep']
  isplitl [Hst']; · iexact Hst'
  isplitl [Hat']; · iexact Hat'
  isplitl [Hr'] <;> iassumption

/-- The kernel's own semaphores: the sixty of the channels. -/
abbrev osem (x : Ch ⊕ Ch) : SemLoc sig := csem (.inr x)
theorem ownSemFacts : Pipeline.OwnSemFacts cfg0.spec osem := by decide +kernel

omit [FloatOps F] in
theorem unscopedSems0_eq (c : Dev nD) : (unscopedSems0 c : sProp 𝕄) = semVal (bCell c) 0 := by
  unfold unscopedSems0; rw [bigSep_eq_bigSepL_of_eq [SemLoc.reg barS] (by decide) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = (bigSep Finset.univ fun x => semVal (cell x c) 0 : sProp 𝕄) := by
  unfold Pipeline.ownSems0
  rw [unscopedSems0_eq, bigSep_univ_sum, cx_split]
  rfl

theorem alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun x => iprop(∃ κ : ℕ, cellInv ER (Rd I) κ (cell x c)))
          ∗ (bigSep Finset.univ fun x => atPos ER (cell x c) 0 ∅ 0) ∗ (bigSep Finset.univ fun x => reached ER (cell x c) 0) ∗ toks c) := by
  unfold G
  iintro ⟨Hos, Hus, Hst, Hat, Hr, Htok⟩
  ihave Hv := (Entails.of_eq (sems0_eq (F := F) c)) $$ [Hos Hus]
  · isplitl [Hus] <;> iassumption
  imod (show iprop((bigSep Finset.univ fun x : Cx => semVal (cell x c) 0) ∗ bigSep Finset.univ fun x : Cx => roundState ER (Rd I) (cell x c) 0)
      ⊢ (|={Set.univ}=> bigSep Finset.univ fun x => iprop(∃ κ : ℕ, cellInv ER (Rd I) κ (cell x c)) : sProp 𝕄) from by
        rw [← bigSep_sep']
        exact (bigSep_mono fun x _ => (Rounds.body_intro ER (Rd I) (cell x c)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

omit [FloatOps F] in
theorem with_standing {T : Type} [DecidableEq T] {S : Finset T} {R : sProp 𝕄} [BI.Persistent R] {Φ Ψ : T → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share_out (c : Dev nD) : iprop(records I K ∗ linear c) ⊢ G' I c := by
  unfold G'
  iintro H
  iexists K
  iexact H

theorem regroup :
    (bigSep Finset.univ fun c : Dev nD => iprop((bigSep Finset.univ fun x => iprop(∃ κ : ℕ, cellInv ER (Rd I) κ (cell x c)))
          ∗ (bigSep Finset.univ fun x => atPos ER (cell x c) 0 ∅ 0) ∗ (bigSep Finset.univ fun x => reached ER (cell x c) 0) ∗ toks c) : sProp 𝕄)
      ⊢ bigSep Finset.univ (G' I) := by
  rw [bigSep_sep', bigSep_sep', bigSep_sep', ← bigSep_univ_prod (fun ck : Dev nD × Cx => iprop(∃ κ : ℕ, cellInv ER (Rd I) κ (cell ck.2 ck.1))),
    ← bigSep_univ_prod (fun ck : Dev nD × Cx => (reached ER (cell ck.2 ck.1) 0 : sProp 𝕄)), toks_around]
  iintro ⟨HI, Hat, #HR, Htok⟩
  ihave HK := (BI.bigSep_exists_pi Finset.univ (fun (ck : Dev nD × Cx) (κ : ℕ) => (cellInv ER (Rd I) κ (cell ck.2 ck.1) : sProp 𝕄))) $$ HI
  icases HK with ⟨%K, #HI⟩
  iapply (with_standing (R := records I K) fun c _ => share_out I K c)
  isplitr
  · unfold records; isplitl; · iexact HI
    iexact HR
  · unfold linear
    rw [bigSep_sep']
    isplitl [Hat] <;> iassumption

/-- All semaphores of all devices at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc I c).trans (bigSep_fupd _ _)).trans (BI.fupd_mono (regroup I))

end Cert.AllReduce
-- ==== Proof.Printed.lean ====
/-
# The printed kernel is the short program

The body as printed, unfolded, is a straight line for each of the four column places. In each of them it agrees with
`kern`, effect by effect: the views, semaphores and devices named are the same, and so is what is stored.
-/
module

public import proofs.«01_k».proof.Proof.Steps

@[expose] public section

noncomputable section

namespace Cert.AllReduce

open Cert.KernelIdeal Cert.KernelIdeal.Gen
open Idealize.ShloMosaic
open Idealize.ShloMosaic.TcCoe
open Idealize.SL.Sem

variable {F : FTy → Type} [FloatOps F]

theorem send_congr {src src' dst dst' : Memref sig .tc .vmem S32x512 .f32} {p p' : Dev nD} {s s' r r' : SemLoc sig}
    {h1 : dst.view.ref.isScScratch = false} {h1' : dst'.view.ref.isScScratch = false} {h2 : src.view.WordExact} {h2' : src'.view.WordExact}
    {h3 : dst.view.WordExact} {h3' : dst'.view.WordExact}
    {h4 : DmaTarget.Typed (sig := sig) (p := .tc) .vmem r (.remote (Dev.tc p : Thread nD τ) dst s h1)}
    {h4' : DmaTarget.Typed (sig := sig) (p := .tc) .vmem r' (.remote (Dev.tc p' : Thread nD τ) dst' s' h1')} {K K' : PUnit → Pg F}
    (es : src = src') (ed : dst = dst') (ep : p = p') (e1 : s = s') (e2 : r = r') (eK : K ⟨⟩ = K' ⟨⟩) :
    (Prog.op (.enqueueDma src (.remote (Dev.tc p : Thread nD τ) dst s h1) r h2 h3 h4) K : Pg F)
      = .op (.enqueueDma src' (.remote (Dev.tc p' : Thread nD τ) dst' s' h1') r' h2' h3' h4') K' := by
  subst es ed ep e1 e2; congr 1; funext x; exact eK
theorem wait_congr {src src' dst dst' : Memref sig .tc .vmem S32x512 .f32} {r r' : DmaSem sig}
    {h2 : src.view.WordExact} {h2' : src'.view.WordExact}
    {h3 : dst.view.WordExact} {h3' : dst'.view.WordExact} {K K' : PUnit → Pg F}
    (es : src = src') (ed : dst = dst') (e2 : r = r') (eK : K ⟨⟩ = K' ⟨⟩) :
    (Prog.op (.waitDma2 r src dst h2 h3) K : Pg F) = .op (.waitDma2 r' src' dst' h2' h3') K' := by
  subst es ed e2; congr 1; funext x; exact eK
theorem load_congr {s : Shape} {m : Memref sig .tc .vmem s .f32} {off off' size : Fin s.rank → ℕ}
    {i : ∀ a, off a + size a ≤ s.size a} {i' : ∀ a, off' a + size a ≤ s.size a}
    {h : m.view.LoadsAt (Rect.unit off size i).toLoadRect} {h' : m.view.LoadsAt (Rect.unit off' size i').toLoadRect}
    {K K' : ((⟨s.rank, size⟩ : Shape).Idx → Elt F .f32) → Pg F} (e : off = off') (eK : ∀ v, K v = K' v) :
    (Prog.op (.load m (Rect.unit off size i).toLoadRect h) K : Pg F) = .op (.load m (Rect.unit off' size i').toLoadRect h') K' := by
  subst e; congr 1; funext x; exact eK x
theorem store_congr {s : Shape} {m : Memref sig .tc .vmem s .f32} {off off' size : Fin s.rank → ℕ}
    {i : ∀ a, off a + size a ≤ s.size a} {i' : ∀ a, off' a + size a ≤ s.size a}
    {w w' : (⟨s.rank, size⟩ : Shape).Idx → Elt F .f32}
    {h : (m.access (Rect.unit off size i)).Stores Finset.univ} {h' : (m.access (Rect.unit off' size i')).Stores Finset.univ} {hm hm'}
    {K K' : PUnit → Pg F} (e : off = off') (ew : w = w') (eK : K ⟨⟩ = K' ⟨⟩) :
    (Prog.op (.store m (Rect.unit off size i) w Finset.univ h hm) K : Pg F)
      = .op (.store m (Rect.unit off' size i') w' Finset.univ h' hm') K' := by
  subst e ew; congr 1; funext x; exact eK
theorem signal_congr {p p' : Dev nD} {K K' : PUnit → Pg F} {n : Int} (e : p = p') (eK : K ⟨⟩ = K' ⟨⟩) :
    (Prog.op (.semSignal (Dev.tc p : Thread nD τ) barS n) K : Pg F) = .op (.semSignal (Dev.tc p' : Thread nD τ) barS n) K' := by
  subst e; congr 1; funext x; exact eK
theorem meet_congr {K K' : PUnit → Pg F} {n : Int} (eK : K ⟨⟩ = K' ⟨⟩) : (Prog.op (.semWait barS n) K : Pg F) = .op (.semWait barS n) K' := by
  congr 1; funext x; exact eK

theorem x_congr {off off' : Fin 3 → ℕ} {i : ∀ a, off a + S1x32x512.size a ≤ S1x512x512.size a} {i' : ∀ a, off' a + S1x32x512.size a ≤ S1x512x512.size a}
    {h} (e : off = off') :
    (xM.slice (Rect.unit (s := S1x512x512) off S1x32x512.size i) h).squeeze S32x512 squeezes_S1x32x512_S32x512
      = (xM.slice (Rect.unit (s := S1x512x512) off' S1x32x512.size i') (fun _ => rfl)).squeeze S32x512 squeezes_S1x32x512_S32x512 := by
  subst e; rfl
theorem o_congr {off off' : Fin 2 → ℕ} {i : ∀ a, off a + S32x512.size a ≤ S512x512.size a} {i' : ∀ a, off' a + S32x512.size a ≤ S512x512.size a}
    {h} (e : off = off') :
    outM.slice (Rect.unit (s := S512x512) off S32x512.size i) h = outM.slice (Rect.unit (s := S512x512) off' S32x512.size i') (fun _ => rfl) := by
  subst e; rfl

/-- The four places in the column: the branch taken and the column orders. -/
theorem conds (c : Dev nD) :
    (c.val / 4 = 0 ∧ farL c = [2, 1, 0] ∧ nearL c = [2, 1, 0] ∧ k0_cond1 c = 1#1 ∧ ¬k0_cond2 c = 1#1 ∧ ¬k0_cond3 c = 1#1 ∧ ¬k0_cond4 c = 1#1 ∧ k0_cond5 c = 1#1 ∧ ¬k0_cond6 c = 1#1 ∧ ¬k0_cond7 c = 1#1 ∧ ¬k0_cond8 c = 1#1)
    ∨ (c.val / 4 = 1 ∧ farL c = [1, 0, 2] ∧ nearL c = [0, 2, 1] ∧ ¬k0_cond1 c = 1#1 ∧ k0_cond2 c = 1#1 ∧ ¬k0_cond3 c = 1#1 ∧ ¬k0_cond4 c = 1#1 ∧ ¬k0_cond5 c = 1#1 ∧ k0_cond6 c = 1#1 ∧ ¬k0_cond7 c = 1#1 ∧ ¬k0_cond8 c = 1#1)
    ∨ (c.val / 4 = 2 ∧ farL c = [1, 0, 2] ∧ nearL c = [0, 2, 1] ∧ ¬k0_cond1 c = 1#1 ∧ ¬k0_cond2 c = 1#1 ∧ k0_cond3 c = 1#1 ∧ ¬k0_cond4 c = 1#1 ∧ ¬k0_cond5 c = 1#1 ∧ ¬k0_cond6 c = 1#1 ∧ k0_cond7 c = 1#1 ∧ ¬k0_cond8 c = 1#1)
    ∨ (c.val / 4 = 3 ∧ farL c = [0, 1, 2] ∧ nearL c = [0, 1, 2] ∧ ¬k0_cond1 c = 1#1 ∧ ¬k0_cond2 c = 1#1 ∧ ¬k0_cond3 c = 1#1 ∧ k0_cond4 c = 1#1 ∧ ¬k0_cond5 c = 1#1 ∧ ¬k0_cond6 c = 1#1 ∧ ¬k0_cond7 c = 1#1 ∧ k0_cond8 c = 1#1) := by
  revert c; decide +kernel

set_option maxHeartbeats 4000000 in
set_option maxRecDepth 20000 in
theorem body_eq : (cc0_body xM (Memref.isWhole_whole _) resM (Memref.isWhole_whole _) gamM (Memref.isWhole_whole _) outM (Memref.isWhole_whole _)
      b1W (Memref.isWhole_whole _) zW (Memref.isWhole_whole _) b2W (Memref.isWhole_whole _)
      cc0_scratch3 cc0_scratch4 cc0_scratch5 cc0_scratch6 cc0_scratch7 cc0_scratch8 cc0_scratch9 cc0_scratch10 : Pg F)
    = .op .deviceId fun c => kern c := by
  simp only [cc0_body_eq_skeleton, cc0_body_skel, k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel, k0_part16_eq_skeleton, k0_part16_skel,
    k0_part17_eq_skeleton, k0_part17_skel, k0_part18_eq_skeleton, k0_part18_skel, k0_part19_eq_skeleton, k0_part19_skel, k0_part20_eq_skeleton, k0_part20_skel,
    k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel,
    k0_part29_eq_skeleton, k0_part29_skel, k0_part30_eq_skeleton, k0_part30_skel, k0_part31_eq_skeleton, k0_part31_skel, k0_part32_eq_skeleton, k0_part32_skel,
    k0_part33_eq_skeleton, k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton, k0_part40_skel,
    k0_part41_eq_skeleton, k0_part41_skel, k0_part42_eq_skeleton, k0_part42_skel, k0_part43_eq_skeleton, k0_part43_skel, k0_part44_eq_skeleton, k0_part44_skel,
    k0_part45_eq_skeleton, k0_part45_skel, k0_part46_eq_skeleton, k0_part46_skel, k0_part47_eq_skeleton, k0_part47_skel, k0_part48_eq_skeleton, k0_part48_skel,
    k0_part49_eq_skeleton, k0_part49_skel, k0_part50_eq_skeleton, k0_part50_skel, k0_part51_eq_skeleton, k0_part51_skel, k0_part52_eq_skeleton, k0_part52_skel,
    k0_part53_eq_skeleton, k0_part53_skel, k0_part54_eq_skeleton, k0_part54_skel, k0_part55_eq_skeleton, k0_part55_skel, k0_part56_eq_skeleton, k0_part56_skel,
    k0_part57_eq_skeleton, k0_part57_skel, k0_part58_eq_skeleton, k0_part58_skel, k0_part59_eq_skeleton, k0_part59_skel, k0_part60_eq_skeleton, k0_part60_skel,
    k0_part61_eq_skeleton, k0_part61_skel, k0_part62_eq_skeleton, k0_part62_skel, k0_part63_eq_skeleton, k0_part63_skel, k0_part64_eq_skeleton, k0_part64_skel,
    k0_part65_eq_skeleton, k0_part65_skel, k0_part66_eq_skeleton, k0_part66_skel, k0_part67_eq_skeleton, k0_part67_skel, k0_part68_eq_skeleton, k0_part68_skel,
    k0_part69_eq_skeleton, k0_part69_skel, k0_part70_eq_skeleton, k0_part70_skel, k0_part71_eq_skeleton, k0_part71_skel, k0_part72_eq_skeleton, k0_part72_skel,
    k0_part73_eq_skeleton, k0_part73_skel, k0_part74_eq_skeleton, k0_part74_skel, k0_part75_eq_skeleton, k0_part75_skel, k0_part76_eq_skeleton, k0_part76_skel,
    k0_part77_eq_skeleton, k0_part77_skel,
    semSignalWord, semWaitWord, Prog.lift, Prog.bind_op, Prog.bind_ret, Prog.pure_eq_ret, bind_assoc]
  congr 1
  funext c
  unfold kern nbL endR endS reduceHalf passHalf
  rcases conds c with ⟨hz, hf, hn, h1, h2, h3, h4, h5, h6, h7, h8⟩ | ⟨hz, hf, hn, h1, h2, h3, h4, h5, h6, h7, h8⟩ | ⟨hz, hf, hn, h1, h2, h3, h4, h5, h6, h7, h8⟩ | ⟨hz, hf, hn, h1, h2, h3, h4, h5, h6, h7, h8⟩
  all_goals
    rw [hf, hn]
    clear hf hn
    simp only [dif_pos, dif_neg, h1, h2, h3, h4, h5, h6, h7, h8, Prog.bind_op, Prog.bind_ret, signals, opSignal, opMeet, List.flatMap_cons,
      List.flatMap_nil, List.map_cons, List.map_nil, List.cons_append, List.nil_append, sends, reduceCols, passCols, recvs, sents, opSum, opFour,
      opNorm, opCol, opSend, opRecv, opSent, not_false_eq_true, dite_true, dite_false]
    repeat' first
      | refine send_congr ?_ ?_ ?_ ?_ ?_ ?_
      | refine wait_congr ?_ ?_ ?_ ?_
      | refine signal_congr ?_ ?_
      | refine meet_congr ?_
      | refine store_congr ?_ ?_ ?_
      | (refine load_congr ?_ ?_; rotate_left; intro _)
    all_goals first
      | (clear hz h1 h2 h3 h4 h5 h6 h7 h8; revert c; decide +kernel)
      | (refine x_congr ?_; revert c; decide +kernel)
      | (refine o_congr ?_; revert c; decide +kernel)
      | (revert c; decide +kernel)
      | decide +kernel
      | exact rfl

end Cert.AllReduce
-- ==== Proof.Main.lean ====
/-
# The run of the whole program

What the pipeline stages is what each device's program works on; the staged result goes back to the result array. Every
device ends with the same sixteen blocks, its arguments untouched and every counter at zero.
-/
module

public import proofs.«01_k».proof.Proof.Ghost
public import proofs.«01_k».proof.Proof.Printed
public import Idealize.ShloMosaic.Lib.Pipeline.CollectiveSegs

@[expose] public section

noncomputable section

namespace Cert.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What is staged on each device. -/
def ins : Ins F where
  x c := (win0_0.blk t0_0).view.read (Elt F) (m ((c : Thread nD τ).loc main_arg0))
  res c := (win0_1.blk t0_0).view.read (Elt F) (m ((c : Thread nD τ).loc main_arg1))
  gam c := (win0_2.blk t0_0).view.read (Elt F) (m ((c : Thread nD τ).loc main_arg2))

/-- The scratch buffers, whole, at some contents. -/
def scr (c : Dev nD) : sProp 𝕄 := iprop((∃ X, own c b1W fullShare X) ∗ (∃ X, own c zW fullShare X) ∗ ∃ X, own c b2W fullShare X)

/-- What a device brings into its program, -/
def start (c : Dev nD) : sProp 𝕄 := iprop(G' (ins m) c ∗ creds c ∗ levAts L lv)
def Φ₀ (c : Dev nD) : sProp 𝕄 := iprop(start m c ∗ scr c)
/-- and what it takes out. -/
def Φ₁ (c : Dev nD) : sProp 𝕄 := iprop(scr c ∗ bigSep Finset.univ fun x => semVal (cell x c) 0)

def dats (_ : Fin 1) (c : Dev nD) : Dat τ (Elt F) Unit ℕ UU ℕ cfg0 c where
  A w := m ((cfg0.win w).arr.view.loc (c : Thread nD τ))
  after w _ := match w with
    | ⟨0, _⟩ => (ins m).x c
    | ⟨1, _⟩ => (ins m).res c
    | ⟨2, _⟩ => (ins m).gam c
    | ⟨3, _⟩ => outAll (ins m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem before_0 (c : Dev nD) (d) : (dats m 0 c).before (0 : Fin 4) t0_0 d = (ins m).x c := by
  unfold Dat.before; rw [if_pos (fetch0_0 t0_0)]; rfl
theorem before_1 (c : Dev nD) (d) : (dats m 0 c).before (1 : Fin 4) t0_0 d = (ins m).res c := by
  unfold Dat.before; rw [if_pos (fetch0_1 t0_0)]; rfl
theorem before_2 (c : Dev nD) (d) : (dats m 0 c).before (2 : Fin 4) t0_0 d = (ins m).gam c := by
  unfold Dat.before; rw [if_pos (fetch0_2 t0_0)]; rfl

/-! ## The body -/

/-- What is owed, whatever was waited for. -/
theorem owes_in (c : Dev nD) : (dats m 0 c).owesAt () t0_0.castSucc ⊢ owesE c (O₀ c) := by
  unfold Dat.owesAt Pipeline.owesWithin owesE
  iintro ⟨%W, %hW, H⟩
  iexists W
  iexact H
theorem owes_out (c : Dev nD) : owesE c 0 ⊢ (dats m 0 c).owesAt () t0_0.succ := by
  unfold Dat.owesAt Pipeline.owesWithin owesE
  iintro ⟨%W, H⟩
  iexists W
  isplitr
  · ipureintro; exact fun _ _ => Or.inl trivial
  iexact H

def bodyPre (c : Dev nD) : sProp 𝕄 :=
  iprop(Φ₀ m c ∗ (dats m 0 c).owesAt () t0_0.castSucc
    ∗ (∃ d, own c xM fullShare ((dats m 0 c).before (0 : Fin 4) t0_0 d)) ∗ (∃ d, own c resM fullShare ((dats m 0 c).before (1 : Fin 4) t0_0 d))
    ∗ (∃ d, own c gamM fullShare ((dats m 0 c).before (2 : Fin 4) t0_0 d)) ∗ ∃ d, own c outM fullShare ((dats m 0 c).before (3 : Fin 4) t0_0 d))
def bodyPost (c : Dev nD) : sProp 𝕄 :=
  iprop(Φ₁ c ∗ (dats m 0 c).owesAt () t0_0.succ ∗ own c xM fullShare ((ins m).x c) ∗ own c resM fullShare ((ins m).res c)
    ∗ own c gamM fullShare ((ins m).gam c) ∗ own c outM fullShare (outAll (ins m)))

theorem sound_body (c : Dev nD) : bodyPre m c ⊢ WP c (.op .deviceId fun c => kern c) fun _ => bodyPost m c := by
  unfold WP
  rw [wp_deviceId]
  unfold bodyPre Φ₀ start G' scr
  simp only [before_0, before_1, before_2]
  iintro ⟨⟨⟨⟨%K, #Hrec, Hlin⟩, Hcr, #Hlev⟩, Hscr⟩, Ho, ⟨%d0, Hx⟩, ⟨%d1, Hr⟩, ⟨%d2, Hg⟩, ⟨%d3, Hout⟩⟩
  iapply (rule_body (ins m) K c fun _ => bodyPost m c)
  isplitr
  · unfold ctx; isplitl
    · iexact Hrec
    · iexact Hlev
  isplitl [Hlin Hcr Hscr Ho Hx Hr Hg Hout]
  · isplitl [Ho]; · iapply (owes_in m c); iexact Ho
    isplitl [Hlin]; · iexact Hlin
    isplitl [Hcr]; · iexact Hcr
    unfold WHOLE
    isplitl [Hx]; · iexact Hx
    isplitl [Hr]; · iexact Hr
    isplitl [Hg]; · iexact Hg
    isplitl [Hout]; · iexists _; iexact Hout
    iexact Hscr
  unfold DONE bodyPost Φ₁ scr
  iintro ⟨Ho, ⟨Hx, Hr, Hg, Hout, Hscr⟩, Hz⟩
  isplitl [Hscr Hz]
  · isplitl [Hscr]; · iexact Hscr
    iexact Hz
  isplitl [Ho]; · iapply (owes_out m c); iexact Ho
  isplitl [Hx]; · iexact Hx
  isplitl [Hr]; · iexact Hr
  isplitl [Hg] <;> iassumption

set_option maxRecDepth 4000 in
theorem body_obligation (c : Dev nD) : BodyObligation (dats m 0 c) (defs₀ (F := F)) 𝒱₀ () Set.univ := fun t => by
  have ht : t = t0_0 := fin_N0 t
  subst ht
  refine BIBase.Entails.trans (Entails.of_eq ?_) ((sound_body m c).trans (Entails.of_eq ?_))
  · unfold bodyPre
    rw [bigSep_W0]
    rfl
  · rw [← body_eq]
    unfold bodyPost
    congr 1
    funext _
    rw [bigSep_W0]
    rfl

/-! ## The side conditions of the launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

omit [FloatOps F] in
/-- The scratch buffers as the pipeline counts them. -/
theorem scr_eq (c : Dev nD) : (Pipeline.scopedRest (Ix := Unit) (Name := ℕ) (U := UU) (Lvl := ℕ) (Val := Elt F) cfg0.spec c : sProp 𝕄) ⊣⊢ scr c := by
  rw [show (Pipeline.scopedRest (Ix := Unit) (Name := ℕ) (U := UU) (Lvl := ℕ) (Val := Elt F) cfg0.spec c : sProp 𝕄) = _ from scopedRest0_eq c]
  unfold scr own
  rw [show (fun X => (owns (Ix := Unit) (Name := ℕ) (U := UU) (Lvl := ℕ) (c : Thread nD τ) b1W fullShare X : sProp 𝕄)) = _ from funext fun X => owns_whole_eq (c : Thread nD τ) cc0_scratch0 fullShare X,
    show (fun X => (owns (Ix := Unit) (Name := ℕ) (U := UU) (Lvl := ℕ) (c : Thread nD τ) zW fullShare X : sProp 𝕄)) = _ from funext fun X => owns_whole_eq (c : Thread nD τ) cc0_scratch1 fullShare X,
    show (fun X => (owns (Ix := Unit) (Name := ℕ) (U := UU) (Lvl := ℕ) (c : Thread nD τ) b2W fullShare X : sProp 𝕄)) = _ from funext fun X => owns_whole_eq (c : Thread nD τ) cc0_scratch2 fullShare X]
  constructor
  · iintro ⟨⟨%f, H1⟩, ⟨%g, H2⟩, ⟨%h, H3⟩⟩
    isplitl [H1]
    · iexists f; iexists f; isplitr; · (ipureintro; rfl)
      iexact H1
    isplitl [H2]
    · iexists g; iexists g; isplitr; · (ipureintro; rfl)
      iexact H2
    iexists h; iexists h; isplitr; · (ipureintro; rfl)
    iexact H3
  · iintro ⟨⟨%X, %f, -, H1⟩, ⟨%Y, %g, -, H2⟩, ⟨%Z, %h, -, H3⟩⟩
    isplitl [H1]; · iexists f; iexact H1
    isplitl [H2]; · iexists g; iexact H2
    iexists h; iexact H3

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scr_eq (F := F) c).1
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [← sems0_eq]
  iintro ⟨Hr, Hu, Ho⟩
  isplitl [Hu]; · iexact Hu
  isplitl [Ho]; · iexact Ho
  iapply (scr_eq (F := F) c).2
  iexact Hr

theorem waits (c : Dev nD) : (levAts L lv : sProp 𝕄) ⊢ Pipeline.cellsWaits cfgs (dats m) () 0 c :=
  Pipeline.cellsWaits_intro cfgs (dats m) () 0 c fun w s t => by
    have hq (q : DmaSem sig) (h : q.val < 4) (t : Fin (cfg0.N + 1)) : (levAts L lv : sProp 𝕄) ⊢ MayWait (c : Thread nD τ) (.dma q) () ((dats m 0 c).owed t) := by
      rcases t with ⟨_ | _, ht⟩
      · exact mayWait_stage c q h (ordL c) nbL
      · exact mayWait_stage c q h [] []
    exact hq _ (by fin_cases w <;> fin_cases s <;> decide) t

/-! ## The run -/

/-- What a window's array holds after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory, with zero counters, for any float values: every weakly fair execution ends, with every array at
    the contents above and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (ins m)) (G' := G' (ins m)) (u₀ := u₀)
    (hu₀ := by
      unfold u₀
      iintro Hu
      ihave H := (ownU_pair _ _) $$ Hu
      icases H with ⟨HP, HX⟩
      imod (fund (ins m)) $$ HX with HG
      imodintro
      isplitl [HP] <;> iassumption)
    (hglob := glob (ins m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce
-- ==== Proof.Ends.lean ====
/-
# What the arrays hold at the end

Each staged block is its whole array. So a device's program reads the arrays themselves, and after the run the arguments
are as they were and the result array is the sixteen blocks together.
-/
module

public import proofs.«01_k».proof.Defs
public import proofs.«01_k».proof.Proof.Gen.Kernel
public import proofs.«01_k».proof.Proof.Main

@[expose] public section

noncomputable section

namespace Cert.AllReduce

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] (m : (ℓ : Loc nD τ sig) → Buf (Elt F) ℓ) (ρ : Dev nD → PrngReg)

/-! ## A block is its array -/

theorem read_0 (f : main_arg0.ty.Contents (Elt F)) : (win0_0.blk t0_0).view.read (Elt F) f = f :=
  Memref.read_access_unit_zero (Elt F) main_arg0 (funext fun a => by fin_cases a <;> rfl) (fun a => by fin_cases a <;> decide) f
theorem read_1 (f : main_arg1.ty.Contents (Elt F)) : (win0_1.blk t0_0).view.read (Elt F) f = f :=
  Memref.read_access_unit_zero (Elt F) main_arg1 (funext fun a => by fin_cases a <;> rfl) (fun a => by fin_cases a <;> decide) f
theorem read_2 (f : main_arg2.ty.Contents (Elt F)) : (win0_2.blk t0_0).view.read (Elt F) f = f :=
  Memref.read_access_unit_zero (Elt F) main_arg2 (funext fun a => by fin_cases a <;> rfl) (fun a => by fin_cases a <;> decide) f
theorem read_3 (f : main_v1.ty.Contents (Elt F)) : (win0_3.blk t0_0).view.read (Elt F) f = f :=
  Memref.read_access_unit_zero (Elt F) main_v1 (funext fun a => by fin_cases a <;> rfl) (fun a => by fin_cases a <;> decide) f

theorem ins_x (c : Dev nD) : (ins m).x c = m ((c : Thread nD τ).loc main_arg0) := read_0 (m ((c : Thread nD τ).loc main_arg0))
theorem ins_res (c : Dev nD) : (ins m).res c = m ((c : Thread nD τ).loc main_arg1) := read_1 (m ((c : Thread nD τ).loc main_arg1))
theorem ins_gam (c : Dev nD) : (ins m).gam c = m ((c : Thread nD τ).loc main_arg2) := read_2 (m ((c : Thread nD τ).loc main_arg2))

/-! ## The arrays after the run -/

theorem final_0 (c : Dev nD) : finalA m c (0 : Fin 4) = m ((c : Thread nD τ).loc main_arg0) := (dats m 0 c).arrAt_in 0 rfl _
theorem final_1 (c : Dev nD) : finalA m c (1 : Fin 4) = m ((c : Thread nD τ).loc main_arg1) := (dats m 0 c).arrAt_in 1 rfl _
theorem final_2 (c : Dev nD) : finalA m c (2 : Fin 4) = m ((c : Thread nD τ).loc main_arg2) := (dats m 0 c).arrAt_in 2 rfl _

/-- The result array, read as the one block it is. -/
theorem final_block (c : Dev nD) : (win0_3.blk t0_0).view.read (Elt F) (finalA m c (3 : Fin 4)) = outAll (ins m) := by
  unfold finalA
  rw [show cfg0.N = t0_0.val + 1 from N_0, (dats m 0 c).arrAt_succ (3 : Fin 4) t0_0,
    show (cfg0.win (3 : Fin 4)).flush t0_0 = true from flush0_3 t0_0, if_pos rfl]
  exact View.read_write_univ _ _

theorem final_3 (c : Dev nD) : finalA m c (3 : Fin 4) = outAll (ins m) := (read_3 _).symm.trans (final_block m c)

/-- The program runs: each device's result is the sixteen blocks, its arguments are unchanged, every counter is zero. -/
theorem run_ends : θ_run defs (onTc (τ := τ) (main (F := F))) ⟨m, fun _ => 0, ρ⟩ (fun r => (∀ c : Dev nD,
    r.2.mem ((c : Thread nD τ).loc main_v1) = outAll (ins m)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0) :=
  (θ_run defs _ _).mono (fun _ h => ⟨fun c => ⟨(h.1 c (3 : Fin 4)).trans (final_3 m c), (h.1 c (0 : Fin 4)).trans (final_0 m c),
    (h.1 c (1 : Fin 4)).trans (final_1 m c), (h.1 c (2 : Fin 4)).trans (final_2 m c)⟩, h.2⟩) (run_main m ρ)

/-! ## The two frames -/

theorem frame_ideal : Cert.quiescent_KernelIdeal := fun m ρ _ =>
  (θ_run Cert.KernelIdeal.defs _ _).mono (fun _ h => ⟨fun c => (h.1 c).2, h.2⟩) (run_ends (F := Ideal) m ρ)

/-- The kernel and its ideal reading are one text: the same bodies, -/
theorem bodies_eq : Cert.Kernel.defs₀ (F := Bits) = Cert.KernelIdeal.defs₀ (F := Bits) := by
  unfold Cert.Kernel.defs₀ Cert.KernelIdeal.defs₀
  refine congrArg Defs.onTc ?_
  funext l a
  obtain ⟨_ | l, hl⟩ := l
  · obtain ⟨t, s⟩ := a
    rfl
  · exact absurd hl (Nat.not_lt.2 (Nat.le_add_left _ _))

/-- the same table of them, -/
theorem table_eq : Cert.Kernel.defs (F := Bits) = Cert.KernelIdeal.defs (F := Bits) := by
  unfold Cert.Kernel.defs Cert.KernelIdeal.defs
  rw [bodies_eq]
  rfl

/-- so the run read over bit patterns is the kernel's. -/
theorem frame_kernel : Cert.quiescent_Kernel := fun m ρ _ => by
  rw [table_eq]
  exact (θ_run Cert.KernelIdeal.defs _ _).mono (fun _ h => ⟨fun c => (h.1 c).2, h.2⟩) (run_ends (F := Bits) m ρ)

end Cert.AllReduce
-- ==== Proof.Value.lean ====
/-
# The kernel's result is the reference's

Slab by slab: the kernel's sum over the mesh is the reference's sum over its first axis, and the norm of a row is the same
text of the same row.
-/
module

public import proofs.«01_k».proof.Proof.Norm
public import proofs.«01_k».proof.Proof.Ends
public import Idealize.ShloMosaic.Lib.Layout

@[expose] public section

noncomputable section

namespace Cert.AllReduce

open Cert.KernelIdeal Cert.KernelIdeal.Gen
open Idealize.ShloMosaic
open Idealize.ShloMosaic.TcCoe
open Idealize.SL.Sem

/-- Row `a` of slab `r`. -/
def row (r : Fin 16) (a : Fin 32) : Fin 512 := ⟨32 * r.val + a.val, by omega⟩

theorem xB_apply (X : S1x512x512.Idx → Elt Ideal .f32) (r : Fin 16) (a : Fin 32) (b : Fin 512) :
    xB X r (ix2 a b) = X (ix3 0 (row r a) b) := by
  unfold xB
  pointwise
  refine congrArg X (funext fun k => Fin.ext ?_)
  fin_cases k
  · rfl
  · show 32 * r.val + 1 * a.val = 32 * r.val + a.val
    omega
  · show 0 + 1 * b.val = b.val
    omega

theorem oB_apply (X : S512x512.Idx → Elt Ideal .f32) (r : Fin 16) (a : Fin 32) (b : Fin 512) :
    oB X r (ix2 a b) = X (ix2 (row r a) b) := by
  refine congrArg X (funext fun k => Fin.ext ?_)
  fin_cases k
  · show 32 * r.val + 1 * a.val = 32 * r.val + a.val
    omega
  · show 0 + 1 * b.val = b.val
    omega

/-- Device `d`'s part of the reference's argument, at an index. -/
theorem part_apply (X : Cert.ReferenceIdeal.S16x512x512.Idx → Elt Ideal .f32) (d : Fin 16) (r b : Fin 512) :
    Layout.block ⟨3, ![1, 512, 512]⟩ ⟨3, ![16, 512, 512]⟩ 0 16 d X (by decide) (ix3 0 r b) = X (ix3 d r b) := by
  rw [Layout.block_apply]
  refine congrArg X (funext fun k => Fin.ext ?_)
  rw [Layout.Tiles.idx_val]
  fin_cases k
  · show d.val * 1 + 0 = d.val
    omega
  · rfl
  · rfl

variable (I : Ins Ideal) (X : Cert.ReferenceIdeal.S16x512x512.Idx → Elt Ideal .f32) (R : S512x512.Idx → Elt Ideal .f32) (G : S512.Idx → Elt Ideal .f32)

/-- From the parts of the reference's arguments the kernel's result is the reference's. -/
theorem value (hx : ∀ c, I.x c = Layout.block ⟨3, ![1, 512, 512]⟩ ⟨3, ![16, 512, 512]⟩ 0 16 c X) (hr : ∀ c, I.res c = R) (hg : ∀ c, I.gam c = G) :
    outAll I = refOut X R G := by
  refine oB_ext fun r => funext fun i => ?_
  obtain ⟨a, b, rfl⟩ : ∃ (a : Fin 32) (b : Fin 512), i = ix2 a b := ⟨i 0, i 1, by funext k; fin_cases k <;> rfl⟩
  rw [oB_apply (refOut X R G), refOut_apply]
  unfold outAll
  rw [oB_oJoin, outv_apply, hg]
  congr 1
  funext k
  rw [ySum_apply, slab_owner, refSum_apply, hr, oB_apply]
  congr 1
  refine Finset.sum_congr rfl fun d _ => ?_
  rw [xB_apply, hx]
  exact part_apply X d (row r a) k

/-! ## The claims -/

/-- The reference's arguments are never written, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments every device's result is the reference's. -/
theorem algebraic : Cert.algebraic_KernelIdeal_ReferenceIdeal := fun m ρ m' ρ' _ h =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ e c => ⟨(e.1 c).1.trans (value (ins m) _ _ _
        (fun d => (ins_x m d).trans (h d).1) (fun d => (ins_res m d).trans (h d).2.1) (fun d => (ins_gam m d).trans (h d).2.2)), (e.1 c).2⟩)
      (run_ends (F := Ideal) m ρ),
    (θ_run Cert.ReferenceIdeal.defs _ _).mono (fun _ e => e 0) (Cert.ReferenceIdeal.Value.run (F := Ideal) m' ρ')⟩

end Cert.AllReduce
-- ==== Proof.lean ====
/-
# The claim

The two frames of the kernel are the one run of its program (Proof/Main.lean, read in Proof/Ends.lean), over bit patterns
and over the extended reals. The reference's frame and values are its list of host operations. The equality of the results
is Proof/Value.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.AllReduce.frame_kernel, Cert.AllReduce.frame_ideal, Cert.AllReduce.frame_reference, trivial, Cert.AllReduce.algebraic⟩

end Cert.Proof

end
